-- ==== Defs.lean ====
def Pre_Kernel [hPre_in_own_window : Cert.Pre_in_own_window.Facts] (m : (ℓ : Loc Cert.Kernel.nD Cert.Kernel.τ Cert.Kernel.sig) → Buf (Elt Bits) ℓ) : Prop :=
  ∀ c : Dev Cert.Kernel.nD,
    (Cert.Pre_in_own_window.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_in_own_window : Cert.Pre_in_own_window.Facts] (m : (ℓ : Loc Cert.KernelIdeal.nD Cert.KernelIdeal.τ Cert.KernelIdeal.sig) → Buf (Elt Ideal) ℓ) : Prop :=
  ∀ c : Dev Cert.KernelIdeal.nD,
    (Cert.Pre_in_own_window.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_own_window [hPre_in_own_window : Cert.Pre_in_own_window.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_own_window.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] [hPre_in_own_window : Cert.Pre_in_own_window.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_in_own_window : Cert.Pre_in_own_window.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_in_own_window [hReferenceIdeal : Cert.ReferenceIdeal.Facts] [hPre_in_own_window : Cert.Pre_in_own_window.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_own_window m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_own_window : Cert.Pre_in_own_window.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_in_own_window : Cert.Pre_in_own_window.Facts),
    quiescent_Kernel (hKernel := hKernel) (hPre_in_own_window := hPre_in_own_window)
    ∧ quiescent_KernelIdeal (hKernelIdeal := hKernelIdeal) (hPre_in_own_window := hPre_in_own_window)
    ∧ quiescent_ReferenceIdeal (hReferenceIdeal := hReferenceIdeal)
    ∧ quiescent_ReferenceIdeal_pre_in_own_window (hReferenceIdeal := hReferenceIdeal) (hPre_in_own_window := hPre_in_own_window)
    ∧ preserves_Kernel_KernelIdeal
    ∧ algebraic_KernelIdeal_ReferenceIdeal (hKernelIdeal := hKernelIdeal) (hReferenceIdeal := hReferenceIdeal) (hPre_in_own_window := hPre_in_own_window)
-- ==== Pre_in_own_window.lean ====
abbrev S2x192x8x28x28 : Shape := ⟨5, ![2, 192, 8, 28, 28]⟩
abbrev S_ : Shape := ⟨0, ![]⟩

class Facts : Prop where
  bcast_S_S2x192x8x28x28 : S_.BroadcastsInDim S2x192x8x28x28 (![] : Fin 0 → Fin S2x192x8x28x28.rank)
  reducesTo_S2x192x8x28x28_S_d0_1_2_3_4 : S2x192x8x28x28.ReducesTo [0, 1, 2, 3, 4] S_
  h_S_ : 0 < S_.numel

variable [Facts]

def fn_part2 {F : FTy → Type} [FloatOps F] (main_v15 : IVec S2x192x8x28x28 32) (main_v35 : IVec S2x192x8x28x28 1) : IVec S_ 1 :=
  let main_c_11 : IVec S_ 32 := constantI S_ 32 3193#32
  let main_v36 : IVec S2x192x8x28x28 32 := broadcastInDim S2x192x8x28x28 ![] bcast_S_S2x192x8x28x28 main_c_11
  let main_v37 : IVec S2x192x8x28x28 1 := cmpi .eq main_v15 main_v36
  let main_v38 : IVec S2x192x8x28x28 1 := ori main_v35 main_v37
  let main_c_12 : IVec S_ 1 := constantI S_ 1 1#1
  let main_v39 : IVec S_ 1 := (fun x v => Host.reduce IntOp.andi x v reducesTo_S2x192x8x28x28_S_d0_1_2_3_4 h_S_) main_v38 main_c_12
  main_v39

def fn_part1 {F : FTy → Type} [FloatOps F] (main_v15 : IVec S2x192x8x28x28 32) (main_v17 : IVec S2x192x8x28x28 1) : IVec S_ 1 :=
  let main_c_5 : IVec S_ 32 := constantI S_ 32 1#32
  let main_v18 : IVec S2x192x8x28x28 32 := broadcastInDim S2x192x8x28x28 ![] bcast_S_S2x192x8x28x28 main_c_5
  let main_v19 : IVec S2x192x8x28x28 1 := cmpi .eq main_v15 main_v18
  let main_v20 : IVec S2x192x8x28x28 1 := ori main_v17 main_v19
  let main_c_6 : IVec S_ 32 := constantI S_ 32 56#32
  let main_v21 : IVec S2x192x8x28x28 32 := broadcastInDim S2x192x8x28x28 ![] bcast_S_S2x192x8x28x28 main_c_6
  let main_v22 : IVec S2x192x8x28x28 1 := cmpi .eq main_v15 main_v21
  let main_v23 : IVec S2x192x8x28x28 1 := ori main_v20 main_v22
  let main_c_7 : IVec S_ 32 := constantI S_ 32 57#32
  let main_v24 : IVec S2x192x8x28x28 32 := broadcastInDim S2x192x8x28x28 ![] bcast_S_S2x192x8x28x28 main_c_7
  let main_v25 : IVec S2x192x8x28x28 1 := cmpi .eq main_v15 main_v24
  let main_v26 : IVec S2x192x8x28x28 1 := ori main_v23 main_v25
  let main_c_8 : IVec S_ 32 := constantI S_ 32 3136#32
  let main_v27 : IVec S2x192x8x28x28 32 := broadcastInDim S2x192x8x28x28 ![] bcast_S_S2x192x8x28x28 main_c_8
  let main_v28 : IVec S2x192x8x28x28 1 := cmpi .eq main_v15 main_v27
  let main_v29 : IVec S2x192x8x28x28 1 := ori main_v26 main_v28
  let main_c_9 : IVec S_ 32 := constantI S_ 32 3137#32
  let main_v30 : IVec S2x192x8x28x28 32 := broadcastInDim S2x192x8x28x28 ![] bcast_S_S2x192x8x28x28 main_c_9
  let main_v31 : IVec S2x192x8x28x28 1 := cmpi .eq main_v15 main_v30
  let main_v32 : IVec S2x192x8x28x28 1 := ori main_v29 main_v31
  let main_c_10 : IVec S_ 32 := constantI S_ 32 3192#32
  let main_v33 : IVec S2x192x8x28x28 32 := broadcastInDim S2x192x8x28x28 ![] bcast_S_S2x192x8x28x28 main_c_10
  let main_v34 : IVec S2x192x8x28x28 1 := cmpi .eq main_v15 main_v33
  let main_v35 : IVec S2x192x8x28x28 1 := ori main_v32 main_v34
  fn_part2 (F := F) main_v15 main_v35

def fn {F : FTy → Type} [FloatOps F] (main_arg0 : FVec F S2x192x8x28x28 .f32) (main_arg1 : IVec S2x192x8x28x28 32) : IVec S_ 1 :=
  let main_v0 : IVec S2x192x8x28x28 32 := iotaInDim S2x192x8x28x28 32 2
  let main_v1 : IVec S2x192x8x28x28 32 := iotaInDim S2x192x8x28x28 32 3
  let main_v2 : IVec S2x192x8x28x28 32 := iotaInDim S2x192x8x28x28 32 4
  let main_c : IVec S_ 32 := constantI S_ 32 2#32
  let main_v3 : IVec S2x192x8x28x28 32 := broadcastInDim S2x192x8x28x28 ![] bcast_S_S2x192x8x28x28 main_c
  let main_v4 : IVec S2x192x8x28x28 32 := muli main_v3 main_v0
  let main_c_0 : IVec S_ 32 := constantI S_ 32 56#32
  let main_v5 : IVec S2x192x8x28x28 32 := broadcastInDim S2x192x8x28x28 ![] bcast_S_S2x192x8x28x28 main_c_0
  let main_v6 : IVec S2x192x8x28x28 32 := muli main_v4 main_v5
  let main_c_1 : IVec S_ 32 := constantI S_ 32 2#32
  let main_v7 : IVec S2x192x8x28x28 32 := broadcastInDim S2x192x8x28x28 ![] bcast_S_S2x192x8x28x28 main_c_1
  let main_v8 : IVec S2x192x8x28x28 32 := muli main_v7 main_v1
  let main_v9 : IVec S2x192x8x28x28 32 := addi main_v6 main_v8
  let main_c_2 : IVec S_ 32 := constantI S_ 32 56#32
  let main_v10 : IVec S2x192x8x28x28 32 := broadcastInDim S2x192x8x28x28 ![] bcast_S_S2x192x8x28x28 main_c_2
  let main_v11 : IVec S2x192x8x28x28 32 := muli main_v9 main_v10
  let main_c_3 : IVec S_ 32 := constantI S_ 32 2#32
  let main_v12 : IVec S2x192x8x28x28 32 := broadcastInDim S2x192x8x28x28 ![] bcast_S_S2x192x8x28x28 main_c_3
  let main_v13 : IVec S2x192x8x28x28 32 := muli main_v12 main_v2
  let main_v14 : IVec S2x192x8x28x28 32 := addi main_v11 main_v13
  let main_v15 : IVec S2x192x8x28x28 32 := subi main_arg1 main_v14
  let main_c_4 : IVec S_ 32 := constantI S_ 32 0#32
  let main_v16 : IVec S2x192x8x28x28 32 := broadcastInDim S2x192x8x28x28 ![] bcast_S_S2x192x8x28x28 main_c_4
  let main_v17 : IVec S2x192x8x28x28 1 := cmpi .eq main_v15 main_v16
  fn_part1 (F := F) main_v15 main_v17
-- ==== Kernel.lean ====
abbrev S2x192x8x28x28 : Shape := ⟨5, ![2, 192, 8, 28, 28]⟩
abbrev S2x8x28x28x192 : Shape := ⟨5, ![2, 8, 28, 28, 192]⟩
abbrev S448x5376 : Shape := ⟨2, ![448, 5376]⟩
abbrev S2x16x56x56x192 : Shape := ⟨5, ![2, 16, 56, 56, 192]⟩
abbrev S224x192 : Shape := ⟨2, ![224, 192]⟩
abbrev S5376 : Shape := ⟨1, ![5376]⟩
abbrev S_ : Shape := ⟨0, ![]⟩
abbrev S16 : Shape := ⟨1, ![16]⟩
abbrev S1x5376 : Shape := ⟨2, ![1, 5376]⟩
abbrev S56x192 : Shape := ⟨2, ![56, 192]⟩
abbrev S1x1x1x56x192 : Shape := ⟨5, ![1, 1, 1, 56, 192]⟩
abbrev S2x192x16x56x56 : Shape := ⟨5, ![2, 192, 16, 56, 56]⟩

abbrev nBuf : Table → Nat
  | .hbm => 8
  | .local .scVector .vmem => 5
  | _ => 0

abbrev bufTy : (tb : Table) → Fin (nBuf tb) → BufTy
  | .hbm, ⟨0, _⟩ => ⟨S2x192x8x28x28, .f32⟩
  | .hbm, ⟨1, _⟩ => ⟨S2x192x8x28x28, .i32⟩
  | .hbm, ⟨2, _⟩ => ⟨S2x8x28x28x192, .f32⟩
  | .hbm, ⟨3, _⟩ => ⟨S448x5376, .f32⟩
  | .hbm, ⟨4, _⟩ => ⟨S2x8x28x28x192, .i32⟩
  | .hbm, ⟨5, _⟩ => ⟨S448x5376, .i32⟩
  | .hbm, ⟨6, _⟩ => ⟨S2x16x56x56x192, .f32⟩
  | .hbm, ⟨7, _⟩ => ⟨S2x192x16x56x56, .f32⟩
  | .local .scVector .vmem, ⟨0, _⟩ => ⟨S224x192, .f32⟩
  | .local .scVector .vmem, ⟨1, _⟩ => ⟨S224x192, .f32⟩
  | .local .scVector .vmem, ⟨2, _⟩ => ⟨S5376, .i32⟩
  | .local .scVector .vmem, ⟨3, _⟩ => ⟨S5376, .i32⟩
  | .local .scVector .vmem, ⟨4, _⟩ => ⟨S5376, .f32⟩
  | _, _ => ⟨S2x192x8x28x28, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 4 → Bool
  | ⟨0, _⟩ => false
  | ⟨1, _⟩ => false
  | ⟨2, _⟩ => false
  | ⟨3, _⟩ => false
  | _ => false

abbrev sig : RefSig :=
  ofTables nBuf rfl bufTy 4 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v1_scv : Ref sig .scVector := ⟨.hbm, 3, rfl⟩
abbrev main_v3_scv : Ref sig .scVector := ⟨.hbm, 5, rfl⟩
abbrev main_v4_scv : Ref sig .scVector := ⟨.hbm, 6, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

@[reducible] def k0_t1_loop : Scf.Loop 32 :=
  let c0_i32_0 : BitVec 32 := 0#32
  let c224_i32 : BitVec 32 := 224#32
  let v28 : BitVec 32 := Scalar.addi c0_i32_0 c224_i32
  let c1_i32 : BitVec 32 := 1#32
  ⟨c0_i32_0, v28, c1_i32⟩

def k0_chk1 (v5 : IVec S16 32) (v7 : IVec S16 32) (v9 : IVec S16 32) (v11 : IVec S16 32) (v13 : IVec S16 32) (v15 : IVec S16 32) (v17 : IVec S16 32) (v19 : IVec S16 32) (v21 : IVec S16 32) (v23 : IVec S16 32) (v25 : IVec S16 32) (v27 : IVec S16 32) (v134 : IVec S16 32) : Prop :=
  (∀ a x, ((![v134, v5] : Fin 2 → IVec S16 32) a x).toNat < S224x192.size a) ∧
  (∀ a x, ((![v134, v7] : Fin 2 → IVec S16 32) a x).toNat < S224x192.size a) ∧
  (∀ a x, ((![v134, v9] : Fin 2 → IVec S16 32) a x).toNat < S224x192.size a) ∧
  (∀ a x, ((![v134, v11] : Fin 2 → IVec S16 32) a x).toNat < S224x192.size a) ∧
  (∀ a x, ((![v134, v13] : Fin 2 → IVec S16 32) a x).toNat < S224x192.size a) ∧
  (∀ a x, ((![v134, v15] : Fin 2 → IVec S16 32) a x).toNat < S224x192.size a) ∧
  (∀ a x, ((![v134, v17] : Fin 2 → IVec S16 32) a x).toNat < S224x192.size a) ∧
  (∀ a x, ((![v134, v19] : Fin 2 → IVec S16 32) a x).toNat < S224x192.size a) ∧
  (∀ a x, ((![v134, v21] : Fin 2 → IVec S16 32) a x).toNat < S224x192.size a) ∧
  (∀ a x, ((![v134, v23] : Fin 2 → IVec S16 32) a x).toNat < S224x192.size a) ∧
  (∀ a x, ((![v134, v25] : Fin 2 → IVec S16 32) a x).toNat < S224x192.size a) ∧
  (∀ a x, ((![v134, v27] : Fin 2 → IVec S16 32) a x).toNat < S224x192.size a)
theorem k0_idx1_inb : ∀ (v5 : IVec S16 32) (v7 : IVec S16 32) (v9 : IVec S16 32) (v11 : IVec S16 32) (v13 : IVec S16 32) (v15 : IVec S16 32) (v17 : IVec S16 32) (v19 : IVec S16 32) (v21 : IVec S16 32) (v23 : IVec S16 32) (v25 : IVec S16 32) (v27 : IVec S16 32) (v134 : IVec S16 32) (k0_hw1 : k0_chk1 v5 v7 v9 v11 v13 v15 v17 v19 v21 v23 v25 v27 v134), ∀ a x, ((![v134, v5] : Fin 2 → IVec S16 32) a x).toNat < S224x192.size a := fun v5 v7 v9 v11 v13 v15 v17 v19 v21 v23 v25 v27 v134 k0_hw1 => k0_hw1.1
theorem k0_idx2_inb : ∀ (v5 : IVec S16 32) (v7 : IVec S16 32) (v9 : IVec S16 32) (v11 : IVec S16 32) (v13 : IVec S16 32) (v15 : IVec S16 32) (v17 : IVec S16 32) (v19 : IVec S16 32) (v21 : IVec S16 32) (v23 : IVec S16 32) (v25 : IVec S16 32) (v27 : IVec S16 32) (v134 : IVec S16 32) (k0_hw1 : k0_chk1 v5 v7 v9 v11 v13 v15 v17 v19 v21 v23 v25 v27 v134), ∀ a x, ((![v134, v7] : Fin 2 → IVec S16 32) a x).toNat < S224x192.size a := fun v5 v7 v9 v11 v13 v15 v17 v19 v21 v23 v25 v27 v134 k0_hw1 => k0_hw1.2.1
theorem k0_idx3_inb : ∀ (v5 : IVec S16 32) (v7 : IVec S16 32) (v9 : IVec S16 32) (v11 : IVec S16 32) (v13 : IVec S16 32) (v15 : IVec S16 32) (v17 : IVec S16 32) (v19 : IVec S16 32) (v21 : IVec S16 32) (v23 : IVec S16 32) (v25 : IVec S16 32) (v27 : IVec S16 32) (v134 : IVec S16 32) (k0_hw1 : k0_chk1 v5 v7 v9 v11 v13 v15 v17 v19 v21 v23 v25 v27 v134), ∀ a x, ((![v134, v9] : Fin 2 → IVec S16 32) a x).toNat < S224x192.size a := fun v5 v7 v9 v11 v13 v15 v17 v19 v21 v23 v25 v27 v134 k0_hw1 => k0_hw1.2.2.1
theorem k0_idx4_inb : ∀ (v5 : IVec S16 32) (v7 : IVec S16 32) (v9 : IVec S16 32) (v11 : IVec S16 32) (v13 : IVec S16 32) (v15 : IVec S16 32) (v17 : IVec S16 32) (v19 : IVec S16 32) (v21 : IVec S16 32) (v23 : IVec S16 32) (v25 : IVec S16 32) (v27 : IVec S16 32) (v134 : IVec S16 32) (k0_hw1 : k0_chk1 v5 v7 v9 v11 v13 v15 v17 v19 v21 v23 v25 v27 v134), ∀ a x, ((![v134, v11] : Fin 2 → IVec S16 32) a x).toNat < S224x192.size a := fun v5 v7 v9 v11 v13 v15 v17 v19 v21 v23 v25 v27 v134 k0_hw1 => k0_hw1.2.2.2.1
theorem k0_idx5_inb : ∀ (v5 : IVec S16 32) (v7 : IVec S16 32) (v9 : IVec S16 32) (v11 : IVec S16 32) (v13 : IVec S16 32) (v15 : IVec S16 32) (v17 : IVec S16 32) (v19 : IVec S16 32) (v21 : IVec S16 32) (v23 : IVec S16 32) (v25 : IVec S16 32) (v27 : IVec S16 32) (v134 : IVec S16 32) (k0_hw1 : k0_chk1 v5 v7 v9 v11 v13 v15 v17 v19 v21 v23 v25 v27 v134), ∀ a x, ((![v134, v13] : Fin 2 → IVec S16 32) a x).toNat < S224x192.size a := fun v5 v7 v9 v11 v13 v15 v17 v19 v21 v23 v25 v27 v134 k0_hw1 => k0_hw1.2.2.2.2.1
theorem k0_idx6_inb : ∀ (v5 : IVec S16 32) (v7 : IVec S16 32) (v9 : IVec S16 32) (v11 : IVec S16 32) (v13 : IVec S16 32) (v15 : IVec S16 32) (v17 : IVec S16 32) (v19 : IVec S16 32) (v21 : IVec S16 32) (v23 : IVec S16 32) (v25 : IVec S16 32) (v27 : IVec S16 32) (v134 : IVec S16 32) (k0_hw1 : k0_chk1 v5 v7 v9 v11 v13 v15 v17 v19 v21 v23 v25 v27 v134), ∀ a x, ((![v134, v15] : Fin 2 → IVec S16 32) a x).toNat < S224x192.size a := fun v5 v7 v9 v11 v13 v15 v17 v19 v21 v23 v25 v27 v134 k0_hw1 => k0_hw1.2.2.2.2.2.1
theorem k0_idx7_inb : ∀ (v5 : IVec S16 32) (v7 : IVec S16 32) (v9 : IVec S16 32) (v11 : IVec S16 32) (v13 : IVec S16 32) (v15 : IVec S16 32) (v17 : IVec S16 32) (v19 : IVec S16 32) (v21 : IVec S16 32) (v23 : IVec S16 32) (v25 : IVec S16 32) (v27 : IVec S16 32) (v134 : IVec S16 32) (k0_hw1 : k0_chk1 v5 v7 v9 v11 v13 v15 v17 v19 v21 v23 v25 v27 v134), ∀ a x, ((![v134, v17] : Fin 2 → IVec S16 32) a x).toNat < S224x192.size a := fun v5 v7 v9 v11 v13 v15 v17 v19 v21 v23 v25 v27 v134 k0_hw1 => k0_hw1.2.2.2.2.2.2.1
theorem k0_idx8_inb : ∀ (v5 : IVec S16 32) (v7 : IVec S16 32) (v9 : IVec S16 32) (v11 : IVec S16 32) (v13 : IVec S16 32) (v15 : IVec S16 32) (v17 : IVec S16 32) (v19 : IVec S16 32) (v21 : IVec S16 32) (v23 : IVec S16 32) (v25 : IVec S16 32) (v27 : IVec S16 32) (v134 : IVec S16 32) (k0_hw1 : k0_chk1 v5 v7 v9 v11 v13 v15 v17 v19 v21 v23 v25 v27 v134), ∀ a x, ((![v134, v19] : Fin 2 → IVec S16 32) a x).toNat < S224x192.size a := fun v5 v7 v9 v11 v13 v15 v17 v19 v21 v23 v25 v27 v134 k0_hw1 => k0_hw1.2.2.2.2.2.2.2.1
theorem k0_idx9_inb : ∀ (v5 : IVec S16 32) (v7 : IVec S16 32) (v9 : IVec S16 32) (v11 : IVec S16 32) (v13 : IVec S16 32) (v15 : IVec S16 32) (v17 : IVec S16 32) (v19 : IVec S16 32) (v21 : IVec S16 32) (v23 : IVec S16 32) (v25 : IVec S16 32) (v27 : IVec S16 32) (v134 : IVec S16 32) (k0_hw1 : k0_chk1 v5 v7 v9 v11 v13 v15 v17 v19 v21 v23 v25 v27 v134), ∀ a x, ((![v134, v21] : Fin 2 → IVec S16 32) a x).toNat < S224x192.size a := fun v5 v7 v9 v11 v13 v15 v17 v19 v21 v23 v25 v27 v134 k0_hw1 => k0_hw1.2.2.2.2.2.2.2.2.1
theorem k0_idx10_inb : ∀ (v5 : IVec S16 32) (v7 : IVec S16 32) (v9 : IVec S16 32) (v11 : IVec S16 32) (v13 : IVec S16 32) (v15 : IVec S16 32) (v17 : IVec S16 32) (v19 : IVec S16 32) (v21 : IVec S16 32) (v23 : IVec S16 32) (v25 : IVec S16 32) (v27 : IVec S16 32) (v134 : IVec S16 32) (k0_hw1 : k0_chk1 v5 v7 v9 v11 v13 v15 v17 v19 v21 v23 v25 v27 v134), ∀ a x, ((![v134, v23] : Fin 2 → IVec S16 32) a x).toNat < S224x192.size a := fun v5 v7 v9 v11 v13 v15 v17 v19 v21 v23 v25 v27 v134 k0_hw1 => k0_hw1.2.2.2.2.2.2.2.2.2.1
theorem k0_idx11_inb : ∀ (v5 : IVec S16 32) (v7 : IVec S16 32) (v9 : IVec S16 32) (v11 : IVec S16 32) (v13 : IVec S16 32) (v15 : IVec S16 32) (v17 : IVec S16 32) (v19 : IVec S16 32) (v21 : IVec S16 32) (v23 : IVec S16 32) (v25 : IVec S16 32) (v27 : IVec S16 32) (v134 : IVec S16 32) (k0_hw1 : k0_chk1 v5 v7 v9 v11 v13 v15 v17 v19 v21 v23 v25 v27 v134), ∀ a x, ((![v134, v25] : Fin 2 → IVec S16 32) a x).toNat < S224x192.size a := fun v5 v7 v9 v11 v13 v15 v17 v19 v21 v23 v25 v27 v134 k0_hw1 => k0_hw1.2.2.2.2.2.2.2.2.2.2.1
theorem k0_idx12_inb : ∀ (v5 : IVec S16 32) (v7 : IVec S16 32) (v9 : IVec S16 32) (v11 : IVec S16 32) (v13 : IVec S16 32) (v15 : IVec S16 32) (v17 : IVec S16 32) (v19 : IVec S16 32) (v21 : IVec S16 32) (v23 : IVec S16 32) (v25 : IVec S16 32) (v27 : IVec S16 32) (v134 : IVec S16 32) (k0_hw1 : k0_chk1 v5 v7 v9 v11 v13 v15 v17 v19 v21 v23 v25 v27 v134), ∀ a x, ((![v134, v27] : Fin 2 → IVec S16 32) a x).toNat < S224x192.size a := fun v5 v7 v9 v11 v13 v15 v17 v19 v21 v23 v25 v27 v134 k0_hw1 => k0_hw1.2.2.2.2.2.2.2.2.2.2.2
@[reducible] def k0_t2_loop : Scf.Loop 32 :=
  let c0_i32_2 : BitVec 32 := 0#32
  let c224_i32_3 : BitVec 32 := 224#32
  let v29 : BitVec 32 := Scalar.addi c0_i32_2 c224_i32_3
  let c1_i32_4 : BitVec 32 := 1#32
  ⟨c0_i32_2, v29, c1_i32_4⟩

def k0_chk2 (v5 : IVec S16 32) (v7 : IVec S16 32) (v9 : IVec S16 32) (v11 : IVec S16 32) (v13 : IVec S16 32) (v15 : IVec S16 32) (v17 : IVec S16 32) (v19 : IVec S16 32) (v21 : IVec S16 32) (v23 : IVec S16 32) (v25 : IVec S16 32) (v27 : IVec S16 32) (v134 : IVec S16 32) : Prop :=
  (∀ a x, ((![v134, v5] : Fin 2 → IVec S16 32) a x).toNat < S224x192.size a) ∧
  (∀ a x, ((![v134, v7] : Fin 2 → IVec S16 32) a x).toNat < S224x192.size a) ∧
  (∀ a x, ((![v134, v9] : Fin 2 → IVec S16 32) a x).toNat < S224x192.size a) ∧
  (∀ a x, ((![v134, v11] : Fin 2 → IVec S16 32) a x).toNat < S224x192.size a) ∧
  (∀ a x, ((![v134, v13] : Fin 2 → IVec S16 32) a x).toNat < S224x192.size a) ∧
  (∀ a x, ((![v134, v15] : Fin 2 → IVec S16 32) a x).toNat < S224x192.size a) ∧
  (∀ a x, ((![v134, v17] : Fin 2 → IVec S16 32) a x).toNat < S224x192.size a) ∧
  (∀ a x, ((![v134, v19] : Fin 2 → IVec S16 32) a x).toNat < S224x192.size a) ∧
  (∀ a x, ((![v134, v21] : Fin 2 → IVec S16 32) a x).toNat < S224x192.size a) ∧
  (∀ a x, ((![v134, v23] : Fin 2 → IVec S16 32) a x).toNat < S224x192.size a) ∧
  (∀ a x, ((![v134, v25] : Fin 2 → IVec S16 32) a x).toNat < S224x192.size a) ∧
  (∀ a x, ((![v134, v27] : Fin 2 → IVec S16 32) a x).toNat < S224x192.size a)
theorem k0_idx13_inb : ∀ (v5 : IVec S16 32) (v7 : IVec S16 32) (v9 : IVec S16 32) (v11 : IVec S16 32) (v13 : IVec S16 32) (v15 : IVec S16 32) (v17 : IVec S16 32) (v19 : IVec S16 32) (v21 : IVec S16 32) (v23 : IVec S16 32) (v25 : IVec S16 32) (v27 : IVec S16 32) (v134 : IVec S16 32) (k0_hw2 : k0_chk2 v5 v7 v9 v11 v13 v15 v17 v19 v21 v23 v25 v27 v134), ∀ a x, ((![v134, v5] : Fin 2 → IVec S16 32) a x).toNat < S224x192.size a := fun v5 v7 v9 v11 v13 v15 v17 v19 v21 v23 v25 v27 v134 k0_hw2 => k0_hw2.1
theorem k0_idx14_inb : ∀ (v5 : IVec S16 32) (v7 : IVec S16 32) (v9 : IVec S16 32) (v11 : IVec S16 32) (v13 : IVec S16 32) (v15 : IVec S16 32) (v17 : IVec S16 32) (v19 : IVec S16 32) (v21 : IVec S16 32) (v23 : IVec S16 32) (v25 : IVec S16 32) (v27 : IVec S16 32) (v134 : IVec S16 32) (k0_hw2 : k0_chk2 v5 v7 v9 v11 v13 v15 v17 v19 v21 v23 v25 v27 v134), ∀ a x, ((![v134, v7] : Fin 2 → IVec S16 32) a x).toNat < S224x192.size a := fun v5 v7 v9 v11 v13 v15 v17 v19 v21 v23 v25 v27 v134 k0_hw2 => k0_hw2.2.1
theorem k0_idx15_inb : ∀ (v5 : IVec S16 32) (v7 : IVec S16 32) (v9 : IVec S16 32) (v11 : IVec S16 32) (v13 : IVec S16 32) (v15 : IVec S16 32) (v17 : IVec S16 32) (v19 : IVec S16 32) (v21 : IVec S16 32) (v23 : IVec S16 32) (v25 : IVec S16 32) (v27 : IVec S16 32) (v134 : IVec S16 32) (k0_hw2 : k0_chk2 v5 v7 v9 v11 v13 v15 v17 v19 v21 v23 v25 v27 v134), ∀ a x, ((![v134, v9] : Fin 2 → IVec S16 32) a x).toNat < S224x192.size a := fun v5 v7 v9 v11 v13 v15 v17 v19 v21 v23 v25 v27 v134 k0_hw2 => k0_hw2.2.2.1
theorem k0_idx16_inb : ∀ (v5 : IVec S16 32) (v7 : IVec S16 32) (v9 : IVec S16 32) (v11 : IVec S16 32) (v13 : IVec S16 32) (v15 : IVec S16 32) (v17 : IVec S16 32) (v19 : IVec S16 32) (v21 : IVec S16 32) (v23 : IVec S16 32) (v25 : IVec S16 32) (v27 : IVec S16 32) (v134 : IVec S16 32) (k0_hw2 : k0_chk2 v5 v7 v9 v11 v13 v15 v17 v19 v21 v23 v25 v27 v134), ∀ a x, ((![v134, v11] : Fin 2 → IVec S16 32) a x).toNat < S224x192.size a := fun v5 v7 v9 v11 v13 v15 v17 v19 v21 v23 v25 v27 v134 k0_hw2 => k0_hw2.2.2.2.1
theorem k0_idx17_inb : ∀ (v5 : IVec S16 32) (v7 : IVec S16 32) (v9 : IVec S16 32) (v11 : IVec S16 32) (v13 : IVec S16 32) (v15 : IVec S16 32) (v17 : IVec S16 32) (v19 : IVec S16 32) (v21 : IVec S16 32) (v23 : IVec S16 32) (v25 : IVec S16 32) (v27 : IVec S16 32) (v134 : IVec S16 32) (k0_hw2 : k0_chk2 v5 v7 v9 v11 v13 v15 v17 v19 v21 v23 v25 v27 v134), ∀ a x, ((![v134, v13] : Fin 2 → IVec S16 32) a x).toNat < S224x192.size a := fun v5 v7 v9 v11 v13 v15 v17 v19 v21 v23 v25 v27 v134 k0_hw2 => k0_hw2.2.2.2.2.1
theorem k0_idx18_inb : ∀ (v5 : IVec S16 32) (v7 : IVec S16 32) (v9 : IVec S16 32) (v11 : IVec S16 32) (v13 : IVec S16 32) (v15 : IVec S16 32) (v17 : IVec S16 32) (v19 : IVec S16 32) (v21 : IVec S16 32) (v23 : IVec S16 32) (v25 : IVec S16 32) (v27 : IVec S16 32) (v134 : IVec S16 32) (k0_hw2 : k0_chk2 v5 v7 v9 v11 v13 v15 v17 v19 v21 v23 v25 v27 v134), ∀ a x, ((![v134, v15] : Fin 2 → IVec S16 32) a x).toNat < S224x192.size a := fun v5 v7 v9 v11 v13 v15 v17 v19 v21 v23 v25 v27 v134 k0_hw2 => k0_hw2.2.2.2.2.2.1
theorem k0_idx19_inb : ∀ (v5 : IVec S16 32) (v7 : IVec S16 32) (v9 : IVec S16 32) (v11 : IVec S16 32) (v13 : IVec S16 32) (v15 : IVec S16 32) (v17 : IVec S16 32) (v19 : IVec S16 32) (v21 : IVec S16 32) (v23 : IVec S16 32) (v25 : IVec S16 32) (v27 : IVec S16 32) (v134 : IVec S16 32) (k0_hw2 : k0_chk2 v5 v7 v9 v11 v13 v15 v17 v19 v21 v23 v25 v27 v134), ∀ a x, ((![v134, v17] : Fin 2 → IVec S16 32) a x).toNat < S224x192.size a := fun v5 v7 v9 v11 v13 v15 v17 v19 v21 v23 v25 v27 v134 k0_hw2 => k0_hw2.2.2.2.2.2.2.1
theorem k0_idx20_inb : ∀ (v5 : IVec S16 32) (v7 : IVec S16 32) (v9 : IVec S16 32) (v11 : IVec S16 32) (v13 : IVec S16 32) (v15 : IVec S16 32) (v17 : IVec S16 32) (v19 : IVec S16 32) (v21 : IVec S16 32) (v23 : IVec S16 32) (v25 : IVec S16 32) (v27 : IVec S16 32) (v134 : IVec S16 32) (k0_hw2 : k0_chk2 v5 v7 v9 v11 v13 v15 v17 v19 v21 v23 v25 v27 v134), ∀ a x, ((![v134, v19] : Fin 2 → IVec S16 32) a x).toNat < S224x192.size a := fun v5 v7 v9 v11 v13 v15 v17 v19 v21 v23 v25 v27 v134 k0_hw2 => k0_hw2.2.2.2.2.2.2.2.1
theorem k0_idx21_inb : ∀ (v5 : IVec S16 32) (v7 : IVec S16 32) (v9 : IVec S16 32) (v11 : IVec S16 32) (v13 : IVec S16 32) (v15 : IVec S16 32) (v17 : IVec S16 32) (v19 : IVec S16 32) (v21 : IVec S16 32) (v23 : IVec S16 32) (v25 : IVec S16 32) (v27 : IVec S16 32) (v134 : IVec S16 32) (k0_hw2 : k0_chk2 v5 v7 v9 v11 v13 v15 v17 v19 v21 v23 v25 v27 v134), ∀ a x, ((![v134, v21] : Fin 2 → IVec S16 32) a x).toNat < S224x192.size a := fun v5 v7 v9 v11 v13 v15 v17 v19 v21 v23 v25 v27 v134 k0_hw2 => k0_hw2.2.2.2.2.2.2.2.2.1
theorem k0_idx22_inb : ∀ (v5 : IVec S16 32) (v7 : IVec S16 32) (v9 : IVec S16 32) (v11 : IVec S16 32) (v13 : IVec S16 32) (v15 : IVec S16 32) (v17 : IVec S16 32) (v19 : IVec S16 32) (v21 : IVec S16 32) (v23 : IVec S16 32) (v25 : IVec S16 32) (v27 : IVec S16 32) (v134 : IVec S16 32) (k0_hw2 : k0_chk2 v5 v7 v9 v11 v13 v15 v17 v19 v21 v23 v25 v27 v134), ∀ a x, ((![v134, v23] : Fin 2 → IVec S16 32) a x).toNat < S224x192.size a := fun v5 v7 v9 v11 v13 v15 v17 v19 v21 v23 v25 v27 v134 k0_hw2 => k0_hw2.2.2.2.2.2.2.2.2.2.1
theorem k0_idx23_inb : ∀ (v5 : IVec S16 32) (v7 : IVec S16 32) (v9 : IVec S16 32) (v11 : IVec S16 32) (v13 : IVec S16 32) (v15 : IVec S16 32) (v17 : IVec S16 32) (v19 : IVec S16 32) (v21 : IVec S16 32) (v23 : IVec S16 32) (v25 : IVec S16 32) (v27 : IVec S16 32) (v134 : IVec S16 32) (k0_hw2 : k0_chk2 v5 v7 v9 v11 v13 v15 v17 v19 v21 v23 v25 v27 v134), ∀ a x, ((![v134, v25] : Fin 2 → IVec S16 32) a x).toNat < S224x192.size a := fun v5 v7 v9 v11 v13 v15 v17 v19 v21 v23 v25 v27 v134 k0_hw2 => k0_hw2.2.2.2.2.2.2.2.2.2.2.1
theorem k0_idx24_inb : ∀ (v5 : IVec S16 32) (v7 : IVec S16 32) (v9 : IVec S16 32) (v11 : IVec S16 32) (v13 : IVec S16 32) (v15 : IVec S16 32) (v17 : IVec S16 32) (v19 : IVec S16 32) (v21 : IVec S16 32) (v23 : IVec S16 32) (v25 : IVec S16 32) (v27 : IVec S16 32) (v134 : IVec S16 32) (k0_hw2 : k0_chk2 v5 v7 v9 v11 v13 v15 v17 v19 v21 v23 v25 v27 v134), ∀ a x, ((![v134, v27] : Fin 2 → IVec S16 32) a x).toNat < S224x192.size a := fun v5 v7 v9 v11 v13 v15 v17 v19 v21 v23 v25 v27 v134 k0_hw2 => k0_hw2.2.2.2.2.2.2.2.2.2.2.2
@[reducible] def k0_t3_loop : Scf.Loop 32 :=
  let c0_i32_6 : BitVec 32 := 0#32
  let c7_i32 : BitVec 32 := 7#32
  let v30 : BitVec 32 := Scalar.addi c0_i32_6 c7_i32
  let c1_i32_7 : BitVec 32 := 1#32
  ⟨c0_i32_6, v30, c1_i32_7⟩
def k0_off1 (i : grid0.Coords) (k0_t3 : Fin k0_t3_loop.trips) (c0_i32_113 : BitVec 32) : Fin 2 → Nat :=
  let c0_i32_111 : BitVec 32 := 0#32
  let c0_i32_6 : BitVec 32 := 0#32
  let c1_i32_7 : BitVec 32 := 1#32
  let arg14 : BitVec 32 := Scf.iv c0_i32_6 c1_i32_7 k0_t3
  let c1_i32_110 : BitVec 32 := 1#32
  let v129 : BitVec 32 := Scalar.muli arg14 c1_i32_110
  let v130 : BitVec 32 := Scalar.addi c0_i32_111 v129
  let c2_i32_112 : BitVec 32 := 2#32
  let v131 : BitVec 32 := Scalar.muli v130 c2_i32_112
  let v132 : BitVec 32 := Scalar.addi v131 c0_i32_113
  let c32_i32_114 : BitVec 32 := 32#32
  let v133 : BitVec 32 := Scalar.muli v132 c32_i32_114
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v134 : BitVec 32 := Scalar.addi v133 v1
  let c0_i32_120 : BitVec 32 := 0#32
  ![v134.toNat, 0]
def k0_cond1 (k0_t3 : Fin k0_t3_loop.trips) : BitVec 1 :=
  let c0_i32_111 : BitVec 32 := 0#32
  let c0_i32_6 : BitVec 32 := 0#32
  let c1_i32_7 : BitVec 32 := 1#32
  let arg14 : BitVec 32 := Scf.iv c0_i32_6 c1_i32_7 k0_t3
  let c1_i32_110 : BitVec 32 := 1#32
  let v129 : BitVec 32 := Scalar.muli arg14 c1_i32_110
  let v130 : BitVec 32 := Scalar.addi c0_i32_111 v129
  let c0_i32_122 : BitVec 32 := 0#32
  let v147 : BitVec 1 := Scalar.cmpi .sgt v130 c0_i32_122
  let v148 : BitVec 32 := Scalar.extui v147
  let c0_i32_123 : BitVec 32 := 0#32
  let v149 : BitVec 1 := Scalar.cmpi .ne v148 c0_i32_123
  v149

def k0_off2 (i : grid0.Coords) (k0_t3 : Fin k0_t3_loop.trips) (c0_i32_278 : BitVec 32) (c0_i32_280 : BitVec 32) : Fin 5 → Nat :=
  let c0_i32_111 : BitVec 32 := 0#32
  let c0_i32_6 : BitVec 32 := 0#32
  let c1_i32_7 : BitVec 32 := 1#32
  let arg14 : BitVec 32 := Scf.iv c0_i32_6 c1_i32_7 k0_t3
  let c1_i32_110 : BitVec 32 := 1#32
  let v129 : BitVec 32 := Scalar.muli arg14 c1_i32_110
  let v130 : BitVec 32 := Scalar.addi c0_i32_111 v129
  let c2_i32_112 : BitVec 32 := 2#32
  let v131 : BitVec 32 := Scalar.muli v130 c2_i32_112
  let c0_i32_113 : BitVec 32 := 0#32
  let v132 : BitVec 32 := Scalar.addi v131 c0_i32_113
  let c2_i32_270 : BitVec 32 := 2#32
  let v303 : BitVec 32 := Scalar.subi v132 c2_i32_270
  let c32_i32_271 : BitVec 32 := 32#32
  let v304 : BitVec 32 := Scalar.muli v303 c32_i32_271
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v305 : BitVec 32 := Scalar.addi v304 v1
  let c224_i32_272 : BitVec 32 := 224#32
  let v306 : BitVec 1 := Scalar.cmpi .sge v305 c224_i32_272
  let v307 : BitVec 32 := Scalar.extui v306
  let c2_i32_277 : BitVec 32 := 2#32
  let c224_i32_273 : BitVec 32 := 224#32
  let v308 : BitVec 32 := Scalar.muli v307 c224_i32_273
  let v309 : BitVec 32 := Scalar.subi v305 v308
  let c586_i32_274 : BitVec 32 := 586#32
  let v310 : BitVec 32 := Scalar.muli v309 c586_i32_274
  let c14_i32_275 : BitVec 32 := 14#32
  let v311 : BitVec 32 := Scalar.shrsi v310 c14_i32_275
  let v314 : BitVec 32 := Scalar.muli c2_i32_277 v311
  let v315 : BitVec 32 := Scalar.addi v314 c0_i32_278
  let c2_i32_279 : BitVec 32 := 2#32
  let c28_i32_276 : BitVec 32 := 28#32
  let v312 : BitVec 32 := Scalar.muli v311 c28_i32_276
  let v313 : BitVec 32 := Scalar.subi v309 v312
  let v316 : BitVec 32 := Scalar.muli c2_i32_279 v313
  let v317 : BitVec 32 := Scalar.addi v316 c0_i32_280
  let c0_i32_295 : BitVec 32 := 0#32
  let c0_i32_296 : BitVec 32 := 0#32
  ![v307.toNat, v315.toNat, v317.toNat, 0, 0]
@[reducible] def k0_t4_loop : Scf.Loop 32 :=
  let c0_i32_325 : BitVec 32 := 0#32
  let c336_i32 : BitVec 32 := 336#32
  let v354 : BitVec 32 := Scalar.addi c0_i32_325 c336_i32
  let c1_i32_326 : BitVec 32 := 1#32
  ⟨c0_i32_325, v354, c1_i32_326⟩
def k0_off3 (k0_t4 : Fin k0_t4_loop.trips) : Fin 1 → Nat :=
  let c0_i32_329 : BitVec 32 := 0#32
  let c0_i32_325 : BitVec 32 := 0#32
  let c1_i32_326 : BitVec 32 := 1#32
  let arg15 : BitVec 32 := Scf.iv c0_i32_325 c1_i32_326 k0_t4
  let c16_i32_328 : BitVec 32 := 16#32
  let v355 : BitVec 32 := Scalar.muli arg15 c16_i32_328
  let v356 : BitVec 32 := Scalar.addi c0_i32_329 v355
  let v357 : Index := Scalar.indexCast v356
  ![v357.toNat]

def k0_chk3 (k0_t3 : Fin k0_t3_loop.trips) (v360 : IVec S16 32) (v362 : IVec S16 32) : Prop :=
  (∀ (k0_h1 : k0_cond1 k0_t3 = 1#1), ∀ a x, ((![v360, v362] : Fin 2 → IVec S16 32) a x).toNat < S224x192.size a)
theorem k0_idx25_inb : ∀ (k0_t3 : Fin k0_t3_loop.trips) (v360 : IVec S16 32) (v362 : IVec S16 32) (k0_hw3 : k0_chk3 k0_t3 v360 v362), ∀ (k0_h1 : k0_cond1 k0_t3 = 1#1), ∀ a x, ((![v360, v362] : Fin 2 → IVec S16 32) a x).toNat < S224x192.size a := fun k0_t3 v360 v362 k0_hw3 k0_h1 => k0_hw3 k0_h1
@[reducible] def k0_t5_loop : Scf.Loop 32 :=
  let c0_i32_133 : BitVec 32 := 0#32
  let c28_i32_134 : BitVec 32 := 28#32
  let v166 : BitVec 32 := Scalar.addi c0_i32_133 c28_i32_134
  let c1_i32_135 : BitVec 32 := 1#32
  ⟨c0_i32_133, v166, c1_i32_135⟩
def k0_off4 (k0_t5 : Fin k0_t5_loop.trips) : Fin 1 → Nat :=
  let c0_i32_271 : BitVec 32 := 0#32
  let c0_i32_133 : BitVec 32 := 0#32
  let c1_i32_135 : BitVec 32 := 1#32
  let arg15 : BitVec 32 := Scf.iv c0_i32_133 c1_i32_135 k0_t5
  let c1_i32_270 : BitVec 32 := 1#32
  let v303 : BitVec 32 := Scalar.muli arg15 c1_i32_270
  let v304 : BitVec 32 := Scalar.addi c0_i32_271 v303
  let c192_i32 : BitVec 32 := 192#32
  let v305 : BitVec 32 := Scalar.muli v304 c192_i32
  let c0_i32_274 : BitVec 32 := 0#32
  let v312 : BitVec 32 := Scalar.addi v305 c0_i32_274
  let v313 : Index := Scalar.indexCast v312
  ![v313.toNat]

def k0_chk4 (v5 : IVec S16 32) (v339 : IVec S16 32) : Prop :=
  (∀ a x, ((![v339, v5] : Fin 2 → IVec S16 32) a x).toNat < S224x192.size a)
theorem k0_idx26_inb : ∀ (v5 : IVec S16 32) (v339 : IVec S16 32) (k0_hw4 : k0_chk4 v5 v339), ∀ a x, ((![v339, v5] : Fin 2 → IVec S16 32) a x).toNat < S224x192.size a := fun v5 v339 k0_hw4 => k0_hw4
def k0_off5 (k0_t5 : Fin k0_t5_loop.trips) : Fin 1 → Nat :=
  let c0_i32_271 : BitVec 32 := 0#32
  let c0_i32_133 : BitVec 32 := 0#32
  let c1_i32_135 : BitVec 32 := 1#32
  let arg15 : BitVec 32 := Scf.iv c0_i32_133 c1_i32_135 k0_t5
  let c1_i32_270 : BitVec 32 := 1#32
  let v303 : BitVec 32 := Scalar.muli arg15 c1_i32_270
  let v304 : BitVec 32 := Scalar.addi c0_i32_271 v303
  let c192_i32 : BitVec 32 := 192#32
  let v305 : BitVec 32 := Scalar.muli v304 c192_i32
  let c16_i32_283 : BitVec 32 := 16#32
  let v346 : BitVec 32 := Scalar.addi v305 c16_i32_283
  let v347 : Index := Scalar.indexCast v346
  ![v347.toNat]

def k0_chk5 (v7 : IVec S16 32) (v373 : IVec S16 32) : Prop :=
  (∀ a x, ((![v373, v7] : Fin 2 → IVec S16 32) a x).toNat < S224x192.size a)
theorem k0_idx27_inb : ∀ (v7 : IVec S16 32) (v373 : IVec S16 32) (k0_hw5 : k0_chk5 v7 v373), ∀ a x, ((![v373, v7] : Fin 2 → IVec S16 32) a x).toNat < S224x192.size a := fun v7 v373 k0_hw5 => k0_hw5
def k0_off6 (k0_t5 : Fin k0_t5_loop.trips) : Fin 1 → Nat :=
  let c0_i32_271 : BitVec 32 := 0#32
  let c0_i32_133 : BitVec 32 := 0#32
  let c1_i32_135 : BitVec 32 := 1#32
  let arg15 : BitVec 32 := Scf.iv c0_i32_133 c1_i32_135 k0_t5
  let c1_i32_270 : BitVec 32 := 1#32
  let v303 : BitVec 32 := Scalar.muli arg15 c1_i32_270
  let v304 : BitVec 32 := Scalar.addi c0_i32_271 v303
  let c192_i32 : BitVec 32 := 192#32
  let v305 : BitVec 32 := Scalar.muli v304 c192_i32
  let c32_i32_294 : BitVec 32 := 32#32
  let v380 : BitVec 32 := Scalar.addi v305 c32_i32_294
  let v381 : Index := Scalar.indexCast v380
  ![v381.toNat]

def k0_chk6 (v9 : IVec S16 32) (v407 : IVec S16 32) : Prop :=
  (∀ a x, ((![v407, v9] : Fin 2 → IVec S16 32) a x).toNat < S224x192.size a)
theorem k0_idx28_inb : ∀ (v9 : IVec S16 32) (v407 : IVec S16 32) (k0_hw6 : k0_chk6 v9 v407), ∀ a x, ((![v407, v9] : Fin 2 → IVec S16 32) a x).toNat < S224x192.size a := fun v9 v407 k0_hw6 => k0_hw6
def k0_off7 (k0_t5 : Fin k0_t5_loop.trips) : Fin 1 → Nat :=
  let c0_i32_271 : BitVec 32 := 0#32
  let c0_i32_133 : BitVec 32 := 0#32
  let c1_i32_135 : BitVec 32 := 1#32
  let arg15 : BitVec 32 := Scf.iv c0_i32_133 c1_i32_135 k0_t5
  let c1_i32_270 : BitVec 32 := 1#32
  let v303 : BitVec 32 := Scalar.muli arg15 c1_i32_270
  let v304 : BitVec 32 := Scalar.addi c0_i32_271 v303
  let c192_i32 : BitVec 32 := 192#32
  let v305 : BitVec 32 := Scalar.muli v304 c192_i32
  let c48_i32_305 : BitVec 32 := 48#32
  let v414 : BitVec 32 := Scalar.addi v305 c48_i32_305
  let v415 : Index := Scalar.indexCast v414
  ![v415.toNat]

def k0_chk7 (v11 : IVec S16 32) (v441 : IVec S16 32) : Prop :=
  (∀ a x, ((![v441, v11] : Fin 2 → IVec S16 32) a x).toNat < S224x192.size a)
theorem k0_idx29_inb : ∀ (v11 : IVec S16 32) (v441 : IVec S16 32) (k0_hw7 : k0_chk7 v11 v441), ∀ a x, ((![v441, v11] : Fin 2 → IVec S16 32) a x).toNat < S224x192.size a := fun v11 v441 k0_hw7 => k0_hw7
def k0_off8 (k0_t5 : Fin k0_t5_loop.trips) : Fin 1 → Nat :=
  let c0_i32_271 : BitVec 32 := 0#32
  let c0_i32_133 : BitVec 32 := 0#32
  let c1_i32_135 : BitVec 32 := 1#32
  let arg15 : BitVec 32 := Scf.iv c0_i32_133 c1_i32_135 k0_t5
  let c1_i32_270 : BitVec 32 := 1#32
  let v303 : BitVec 32 := Scalar.muli arg15 c1_i32_270
  let v304 : BitVec 32 := Scalar.addi c0_i32_271 v303
  let c192_i32 : BitVec 32 := 192#32
  let v305 : BitVec 32 := Scalar.muli v304 c192_i32
  let c64_i32_316 : BitVec 32 := 64#32
  let v448 : BitVec 32 := Scalar.addi v305 c64_i32_316
  let v449 : Index := Scalar.indexCast v448
  ![v449.toNat]

def k0_chk8 (v13 : IVec S16 32) (v475 : IVec S16 32) : Prop :=
  (∀ a x, ((![v475, v13] : Fin 2 → IVec S16 32) a x).toNat < S224x192.size a)
theorem k0_idx30_inb : ∀ (v13 : IVec S16 32) (v475 : IVec S16 32) (k0_hw8 : k0_chk8 v13 v475), ∀ a x, ((![v475, v13] : Fin 2 → IVec S16 32) a x).toNat < S224x192.size a := fun v13 v475 k0_hw8 => k0_hw8
def k0_off9 (k0_t5 : Fin k0_t5_loop.trips) : Fin 1 → Nat :=
  let c0_i32_271 : BitVec 32 := 0#32
  let c0_i32_133 : BitVec 32 := 0#32
  let c1_i32_135 : BitVec 32 := 1#32
  let arg15 : BitVec 32 := Scf.iv c0_i32_133 c1_i32_135 k0_t5
  let c1_i32_270 : BitVec 32 := 1#32
  let v303 : BitVec 32 := Scalar.muli arg15 c1_i32_270
  let v304 : BitVec 32 := Scalar.addi c0_i32_271 v303
  let c192_i32 : BitVec 32 := 192#32
  let v305 : BitVec 32 := Scalar.muli v304 c192_i32
  let c80_i32_327 : BitVec 32 := 80#32
  let v482 : BitVec 32 := Scalar.addi v305 c80_i32_327
  let v483 : Index := Scalar.indexCast v482
  ![v483.toNat]

def k0_chk9 (v15 : IVec S16 32) (v509 : IVec S16 32) : Prop :=
  (∀ a x, ((![v509, v15] : Fin 2 → IVec S16 32) a x).toNat < S224x192.size a)
theorem k0_idx31_inb : ∀ (v15 : IVec S16 32) (v509 : IVec S16 32) (k0_hw9 : k0_chk9 v15 v509), ∀ a x, ((![v509, v15] : Fin 2 → IVec S16 32) a x).toNat < S224x192.size a := fun v15 v509 k0_hw9 => k0_hw9
def k0_off10 (k0_t5 : Fin k0_t5_loop.trips) : Fin 1 → Nat :=
  let c0_i32_271 : BitVec 32 := 0#32
  let c0_i32_133 : BitVec 32 := 0#32
  let c1_i32_135 : BitVec 32 := 1#32
  let arg15 : BitVec 32 := Scf.iv c0_i32_133 c1_i32_135 k0_t5
  let c1_i32_270 : BitVec 32 := 1#32
  let v303 : BitVec 32 := Scalar.muli arg15 c1_i32_270
  let v304 : BitVec 32 := Scalar.addi c0_i32_271 v303
  let c192_i32 : BitVec 32 := 192#32
  let v305 : BitVec 32 := Scalar.muli v304 c192_i32
  let c96_i32_338 : BitVec 32 := 96#32
  let v516 : BitVec 32 := Scalar.addi v305 c96_i32_338
  let v517 : Index := Scalar.indexCast v516
  ![v517.toNat]

def k0_chk10 (v17 : IVec S16 32) (v543 : IVec S16 32) : Prop :=
  (∀ a x, ((![v543, v17] : Fin 2 → IVec S16 32) a x).toNat < S224x192.size a)
theorem k0_idx32_inb : ∀ (v17 : IVec S16 32) (v543 : IVec S16 32) (k0_hw10 : k0_chk10 v17 v543), ∀ a x, ((![v543, v17] : Fin 2 → IVec S16 32) a x).toNat < S224x192.size a := fun v17 v543 k0_hw10 => k0_hw10
def k0_off11 (k0_t5 : Fin k0_t5_loop.trips) : Fin 1 → Nat :=
  let c0_i32_271 : BitVec 32 := 0#32
  let c0_i32_133 : BitVec 32 := 0#32
  let c1_i32_135 : BitVec 32 := 1#32
  let arg15 : BitVec 32 := Scf.iv c0_i32_133 c1_i32_135 k0_t5
  let c1_i32_270 : BitVec 32 := 1#32
  let v303 : BitVec 32 := Scalar.muli arg15 c1_i32_270
  let v304 : BitVec 32 := Scalar.addi c0_i32_271 v303
  let c192_i32 : BitVec 32 := 192#32
  let v305 : BitVec 32 := Scalar.muli v304 c192_i32
  let c112_i32_349 : BitVec 32 := 112#32
  let v550 : BitVec 32 := Scalar.addi v305 c112_i32_349
  let v551 : Index := Scalar.indexCast v550
  ![v551.toNat]

def k0_chk11 (v19 : IVec S16 32) (v577 : IVec S16 32) : Prop :=
  (∀ a x, ((![v577, v19] : Fin 2 → IVec S16 32) a x).toNat < S224x192.size a)
theorem k0_idx33_inb : ∀ (v19 : IVec S16 32) (v577 : IVec S16 32) (k0_hw11 : k0_chk11 v19 v577), ∀ a x, ((![v577, v19] : Fin 2 → IVec S16 32) a x).toNat < S224x192.size a := fun v19 v577 k0_hw11 => k0_hw11
def k0_off12 (k0_t5 : Fin k0_t5_loop.trips) : Fin 1 → Nat :=
  let c0_i32_271 : BitVec 32 := 0#32
  let c0_i32_133 : BitVec 32 := 0#32
  let c1_i32_135 : BitVec 32 := 1#32
  let arg15 : BitVec 32 := Scf.iv c0_i32_133 c1_i32_135 k0_t5
  let c1_i32_270 : BitVec 32 := 1#32
  let v303 : BitVec 32 := Scalar.muli arg15 c1_i32_270
  let v304 : BitVec 32 := Scalar.addi c0_i32_271 v303
  let c192_i32 : BitVec 32 := 192#32
  let v305 : BitVec 32 := Scalar.muli v304 c192_i32
  let c128_i32_360 : BitVec 32 := 128#32
  let v584 : BitVec 32 := Scalar.addi v305 c128_i32_360
  let v585 : Index := Scalar.indexCast v584
  ![v585.toNat]

def k0_chk12 (v21 : IVec S16 32) (v611 : IVec S16 32) : Prop :=
  (∀ a x, ((![v611, v21] : Fin 2 → IVec S16 32) a x).toNat < S224x192.size a)
theorem k0_idx34_inb : ∀ (v21 : IVec S16 32) (v611 : IVec S16 32) (k0_hw12 : k0_chk12 v21 v611), ∀ a x, ((![v611, v21] : Fin 2 → IVec S16 32) a x).toNat < S224x192.size a := fun v21 v611 k0_hw12 => k0_hw12
def k0_off13 (k0_t5 : Fin k0_t5_loop.trips) : Fin 1 → Nat :=
  let c0_i32_271 : BitVec 32 := 0#32
  let c0_i32_133 : BitVec 32 := 0#32
  let c1_i32_135 : BitVec 32 := 1#32
  let arg15 : BitVec 32 := Scf.iv c0_i32_133 c1_i32_135 k0_t5
  let c1_i32_270 : BitVec 32 := 1#32
  let v303 : BitVec 32 := Scalar.muli arg15 c1_i32_270
  let v304 : BitVec 32 := Scalar.addi c0_i32_271 v303
  let c192_i32 : BitVec 32 := 192#32
  let v305 : BitVec 32 := Scalar.muli v304 c192_i32
  let c144_i32_371 : BitVec 32 := 144#32
  let v618 : BitVec 32 := Scalar.addi v305 c144_i32_371
  let v619 : Index := Scalar.indexCast v618
  ![v619.toNat]

def k0_chk13 (v23 : IVec S16 32) (v645 : IVec S16 32) : Prop :=
  (∀ a x, ((![v645, v23] : Fin 2 → IVec S16 32) a x).toNat < S224x192.size a)
theorem k0_idx35_inb : ∀ (v23 : IVec S16 32) (v645 : IVec S16 32) (k0_hw13 : k0_chk13 v23 v645), ∀ a x, ((![v645, v23] : Fin 2 → IVec S16 32) a x).toNat < S224x192.size a := fun v23 v645 k0_hw13 => k0_hw13
def k0_off14 (k0_t5 : Fin k0_t5_loop.trips) : Fin 1 → Nat :=
  let c0_i32_271 : BitVec 32 := 0#32
  let c0_i32_133 : BitVec 32 := 0#32
  let c1_i32_135 : BitVec 32 := 1#32
  let arg15 : BitVec 32 := Scf.iv c0_i32_133 c1_i32_135 k0_t5
  let c1_i32_270 : BitVec 32 := 1#32
  let v303 : BitVec 32 := Scalar.muli arg15 c1_i32_270
  let v304 : BitVec 32 := Scalar.addi c0_i32_271 v303
  let c192_i32 : BitVec 32 := 192#32
  let v305 : BitVec 32 := Scalar.muli v304 c192_i32
  let c160_i32_382 : BitVec 32 := 160#32
  let v652 : BitVec 32 := Scalar.addi v305 c160_i32_382
  let v653 : Index := Scalar.indexCast v652
  ![v653.toNat]

def k0_chk14 (v25 : IVec S16 32) (v679 : IVec S16 32) : Prop :=
  (∀ a x, ((![v679, v25] : Fin 2 → IVec S16 32) a x).toNat < S224x192.size a)
theorem k0_idx36_inb : ∀ (v25 : IVec S16 32) (v679 : IVec S16 32) (k0_hw14 : k0_chk14 v25 v679), ∀ a x, ((![v679, v25] : Fin 2 → IVec S16 32) a x).toNat < S224x192.size a := fun v25 v679 k0_hw14 => k0_hw14
def k0_off15 (k0_t5 : Fin k0_t5_loop.trips) : Fin 1 → Nat :=
  let c0_i32_271 : BitVec 32 := 0#32
  let c0_i32_133 : BitVec 32 := 0#32
  let c1_i32_135 : BitVec 32 := 1#32
  let arg15 : BitVec 32 := Scf.iv c0_i32_133 c1_i32_135 k0_t5
  let c1_i32_270 : BitVec 32 := 1#32
  let v303 : BitVec 32 := Scalar.muli arg15 c1_i32_270
  let v304 : BitVec 32 := Scalar.addi c0_i32_271 v303
  let c192_i32 : BitVec 32 := 192#32
  let v305 : BitVec 32 := Scalar.muli v304 c192_i32
  let c176_i32_393 : BitVec 32 := 176#32
  let v686 : BitVec 32 := Scalar.addi v305 c176_i32_393
  let v687 : Index := Scalar.indexCast v686
  ![v687.toNat]

def k0_chk15 (v27 : IVec S16 32) (v713 : IVec S16 32) : Prop :=
  (∀ a x, ((![v713, v27] : Fin 2 → IVec S16 32) a x).toNat < S224x192.size a)
theorem k0_idx37_inb : ∀ (v27 : IVec S16 32) (v713 : IVec S16 32) (k0_hw15 : k0_chk15 v27 v713), ∀ a x, ((![v713, v27] : Fin 2 → IVec S16 32) a x).toNat < S224x192.size a := fun v27 v713 k0_hw15 => k0_hw15
def k0_off16 (i : grid0.Coords) (k0_t3 : Fin k0_t3_loop.trips) (c0_i32_113 : BitVec 32) (c0_i32_144 : BitVec 32) (c0_i32_146 : BitVec 32) : Fin 5 → Nat :=
  let c0_i32_111 : BitVec 32 := 0#32
  let c0_i32_6 : BitVec 32 := 0#32
  let c1_i32_7 : BitVec 32 := 1#32
  let arg14 : BitVec 32 := Scf.iv c0_i32_6 c1_i32_7 k0_t3
  let c1_i32_110 : BitVec 32 := 1#32
  let v129 : BitVec 32 := Scalar.muli arg14 c1_i32_110
  let v130 : BitVec 32 := Scalar.addi c0_i32_111 v129
  let c2_i32_112 : BitVec 32 := 2#32
  let v131 : BitVec 32 := Scalar.muli v130 c2_i32_112
  let v132 : BitVec 32 := Scalar.addi v131 c0_i32_113
  let c32_i32_137 : BitVec 32 := 32#32
  let v167 : BitVec 32 := Scalar.muli v132 c32_i32_137
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v168 : BitVec 32 := Scalar.addi v167 v1
  let c224_i32_138 : BitVec 32 := 224#32
  let v169 : BitVec 1 := Scalar.cmpi .sge v168 c224_i32_138
  let v170 : BitVec 32 := Scalar.extui v169
  let c2_i32_143 : BitVec 32 := 2#32
  let c224_i32_139 : BitVec 32 := 224#32
  let v171 : BitVec 32 := Scalar.muli v170 c224_i32_139
  let v172 : BitVec 32 := Scalar.subi v168 v171
  let c586_i32_140 : BitVec 32 := 586#32
  let v173 : BitVec 32 := Scalar.muli v172 c586_i32_140
  let c14_i32_141 : BitVec 32 := 14#32
  let v174 : BitVec 32 := Scalar.shrsi v173 c14_i32_141
  let v177 : BitVec 32 := Scalar.muli c2_i32_143 v174
  let v178 : BitVec 32 := Scalar.addi v177 c0_i32_144
  let c2_i32_145 : BitVec 32 := 2#32
  let c28_i32_142 : BitVec 32 := 28#32
  let v175 : BitVec 32 := Scalar.muli v174 c28_i32_142
  let v176 : BitVec 32 := Scalar.subi v172 v175
  let v179 : BitVec 32 := Scalar.muli c2_i32_145 v176
  let v180 : BitVec 32 := Scalar.addi v179 c0_i32_146
  let c0_i32_161 : BitVec 32 := 0#32
  let c0_i32_162 : BitVec 32 := 0#32
  ![v170.toNat, v178.toNat, v180.toNat, 0, 0]
def k0_cond2 (k0_t3 : Fin k0_t3_loop.trips) : BitVec 1 :=
  let c0_i32_111 : BitVec 32 := 0#32
  let c0_i32_6 : BitVec 32 := 0#32
  let c1_i32_7 : BitVec 32 := 1#32
  let arg14 : BitVec 32 := Scf.iv c0_i32_6 c1_i32_7 k0_t3
  let c1_i32_110 : BitVec 32 := 1#32
  let v129 : BitVec 32 := Scalar.muli arg14 c1_i32_110
  let v130 : BitVec 32 := Scalar.addi c0_i32_111 v129
  let c0_i32_201 : BitVec 32 := 0#32
  let v233 : BitVec 1 := Scalar.cmpi .sgt v130 c0_i32_201
  let v234 : BitVec 32 := Scalar.extui v233
  let c0_i32_202 : BitVec 32 := 0#32
  let v235 : BitVec 1 := Scalar.cmpi .ne v234 c0_i32_202
  v235

def k0_off17 (i : grid0.Coords) (k0_t3 : Fin k0_t3_loop.trips) (c0_i32_278 : BitVec 32) (c0_i32_280 : BitVec 32) : Fin 5 → Nat :=
  let c0_i32_111 : BitVec 32 := 0#32
  let c0_i32_6 : BitVec 32 := 0#32
  let c1_i32_7 : BitVec 32 := 1#32
  let arg14 : BitVec 32 := Scf.iv c0_i32_6 c1_i32_7 k0_t3
  let c1_i32_110 : BitVec 32 := 1#32
  let v129 : BitVec 32 := Scalar.muli arg14 c1_i32_110
  let v130 : BitVec 32 := Scalar.addi c0_i32_111 v129
  let c2_i32_191 : BitVec 32 := 2#32
  let v217 : BitVec 32 := Scalar.muli v130 c2_i32_191
  let c1_i32_192 : BitVec 32 := 1#32
  let v218 : BitVec 32 := Scalar.addi v217 c1_i32_192
  let c2_i32_270 : BitVec 32 := 2#32
  let v303 : BitVec 32 := Scalar.subi v218 c2_i32_270
  let c32_i32_271 : BitVec 32 := 32#32
  let v304 : BitVec 32 := Scalar.muli v303 c32_i32_271
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v305 : BitVec 32 := Scalar.addi v304 v1
  let c224_i32_272 : BitVec 32 := 224#32
  let v306 : BitVec 1 := Scalar.cmpi .sge v305 c224_i32_272
  let v307 : BitVec 32 := Scalar.extui v306
  let c2_i32_277 : BitVec 32 := 2#32
  let c224_i32_273 : BitVec 32 := 224#32
  let v308 : BitVec 32 := Scalar.muli v307 c224_i32_273
  let v309 : BitVec 32 := Scalar.subi v305 v308
  let c586_i32_274 : BitVec 32 := 586#32
  let v310 : BitVec 32 := Scalar.muli v309 c586_i32_274
  let c14_i32_275 : BitVec 32 := 14#32
  let v311 : BitVec 32 := Scalar.shrsi v310 c14_i32_275
  let v314 : BitVec 32 := Scalar.muli c2_i32_277 v311
  let v315 : BitVec 32 := Scalar.addi v314 c0_i32_278
  let c2_i32_279 : BitVec 32 := 2#32
  let c28_i32_276 : BitVec 32 := 28#32
  let v312 : BitVec 32 := Scalar.muli v311 c28_i32_276
  let v313 : BitVec 32 := Scalar.subi v309 v312
  let v316 : BitVec 32 := Scalar.muli c2_i32_279 v313
  let v317 : BitVec 32 := Scalar.addi v316 c0_i32_280
  let c0_i32_295 : BitVec 32 := 0#32
  let c0_i32_296 : BitVec 32 := 0#32
  ![v307.toNat, v315.toNat, v317.toNat, 0, 0]
@[reducible] def k0_t6_loop : Scf.Loop 32 :=
  let c0_i32_325 : BitVec 32 := 0#32
  let c336_i32 : BitVec 32 := 336#32
  let v354 : BitVec 32 := Scalar.addi c0_i32_325 c336_i32
  let c1_i32_326 : BitVec 32 := 1#32
  ⟨c0_i32_325, v354, c1_i32_326⟩
def k0_off18 (k0_t6 : Fin k0_t6_loop.trips) : Fin 1 → Nat :=
  let c0_i32_329 : BitVec 32 := 0#32
  let c0_i32_325 : BitVec 32 := 0#32
  let c1_i32_326 : BitVec 32 := 1#32
  let arg15 : BitVec 32 := Scf.iv c0_i32_325 c1_i32_326 k0_t6
  let c16_i32_328 : BitVec 32 := 16#32
  let v355 : BitVec 32 := Scalar.muli arg15 c16_i32_328
  let v356 : BitVec 32 := Scalar.addi c0_i32_329 v355
  let v357 : Index := Scalar.indexCast v356
  ![v357.toNat]

def k0_chk16 (k0_t3 : Fin k0_t3_loop.trips) (v360 : IVec S16 32) (v362 : IVec S16 32) : Prop :=
  (∀ (k0_h2 : k0_cond2 k0_t3 = 1#1), ∀ a x, ((![v360, v362] : Fin 2 → IVec S16 32) a x).toNat < S224x192.size a)
theorem k0_idx38_inb : ∀ (k0_t3 : Fin k0_t3_loop.trips) (v360 : IVec S16 32) (v362 : IVec S16 32) (k0_hw16 : k0_chk16 k0_t3 v360 v362), ∀ (k0_h2 : k0_cond2 k0_t3 = 1#1), ∀ a x, ((![v360, v362] : Fin 2 → IVec S16 32) a x).toNat < S224x192.size a := fun k0_t3 v360 v362 k0_hw16 k0_h2 => k0_hw16 k0_h2
@[reducible] def k0_t7_loop : Scf.Loop 32 :=
  let c0_i32_212 : BitVec 32 := 0#32
  let c28_i32_213 : BitVec 32 := 28#32
  let v252 : BitVec 32 := Scalar.addi c0_i32_212 c28_i32_213
  let c1_i32_214 : BitVec 32 := 1#32
  ⟨c0_i32_212, v252, c1_i32_214⟩
def k0_off19 (k0_t7 : Fin k0_t7_loop.trips) : Fin 1 → Nat :=
  let c0_i32_271 : BitVec 32 := 0#32
  let c0_i32_212 : BitVec 32 := 0#32
  let c1_i32_214 : BitVec 32 := 1#32
  let arg15 : BitVec 32 := Scf.iv c0_i32_212 c1_i32_214 k0_t7
  let c1_i32_270 : BitVec 32 := 1#32
  let v303 : BitVec 32 := Scalar.muli arg15 c1_i32_270
  let v304 : BitVec 32 := Scalar.addi c0_i32_271 v303
  let c192_i32 : BitVec 32 := 192#32
  let v305 : BitVec 32 := Scalar.muli v304 c192_i32
  let c0_i32_274 : BitVec 32 := 0#32
  let v312 : BitVec 32 := Scalar.addi v305 c0_i32_274
  let v313 : Index := Scalar.indexCast v312
  ![v313.toNat]

def k0_chk17 (v5 : IVec S16 32) (v339 : IVec S16 32) : Prop :=
  (∀ a x, ((![v339, v5] : Fin 2 → IVec S16 32) a x).toNat < S224x192.size a)
theorem k0_idx39_inb : ∀ (v5 : IVec S16 32) (v339 : IVec S16 32) (k0_hw17 : k0_chk17 v5 v339), ∀ a x, ((![v339, v5] : Fin 2 → IVec S16 32) a x).toNat < S224x192.size a := fun v5 v339 k0_hw17 => k0_hw17
def k0_off20 (k0_t7 : Fin k0_t7_loop.trips) : Fin 1 → Nat :=
  let c0_i32_271 : BitVec 32 := 0#32
  let c0_i32_212 : BitVec 32 := 0#32
  let c1_i32_214 : BitVec 32 := 1#32
  let arg15 : BitVec 32 := Scf.iv c0_i32_212 c1_i32_214 k0_t7
  let c1_i32_270 : BitVec 32 := 1#32
  let v303 : BitVec 32 := Scalar.muli arg15 c1_i32_270
  let v304 : BitVec 32 := Scalar.addi c0_i32_271 v303
  let c192_i32 : BitVec 32 := 192#32
  let v305 : BitVec 32 := Scalar.muli v304 c192_i32
  let c16_i32_283 : BitVec 32 := 16#32
  let v346 : BitVec 32 := Scalar.addi v305 c16_i32_283
  let v347 : Index := Scalar.indexCast v346
  ![v347.toNat]

def k0_chk18 (v7 : IVec S16 32) (v373 : IVec S16 32) : Prop :=
  (∀ a x, ((![v373, v7] : Fin 2 → IVec S16 32) a x).toNat < S224x192.size a)
theorem k0_idx40_inb : ∀ (v7 : IVec S16 32) (v373 : IVec S16 32) (k0_hw18 : k0_chk18 v7 v373), ∀ a x, ((![v373, v7] : Fin 2 → IVec S16 32) a x).toNat < S224x192.size a := fun v7 v373 k0_hw18 => k0_hw18
def k0_off21 (k0_t7 : Fin k0_t7_loop.trips) : Fin 1 → Nat :=
  let c0_i32_271 : BitVec 32 := 0#32
  let c0_i32_212 : BitVec 32 := 0#32
  let c1_i32_214 : BitVec 32 := 1#32
  let arg15 : BitVec 32 := Scf.iv c0_i32_212 c1_i32_214 k0_t7
  let c1_i32_270 : BitVec 32 := 1#32
  let v303 : BitVec 32 := Scalar.muli arg15 c1_i32_270
  let v304 : BitVec 32 := Scalar.addi c0_i32_271 v303
  let c192_i32 : BitVec 32 := 192#32
  let v305 : BitVec 32 := Scalar.muli v304 c192_i32
  let c32_i32_294 : BitVec 32 := 32#32
  let v380 : BitVec 32 := Scalar.addi v305 c32_i32_294
  let v381 : Index := Scalar.indexCast v380
  ![v381.toNat]

def k0_chk19 (v9 : IVec S16 32) (v407 : IVec S16 32) : Prop :=
  (∀ a x, ((![v407, v9] : Fin 2 → IVec S16 32) a x).toNat < S224x192.size a)
theorem k0_idx41_inb : ∀ (v9 : IVec S16 32) (v407 : IVec S16 32) (k0_hw19 : k0_chk19 v9 v407), ∀ a x, ((![v407, v9] : Fin 2 → IVec S16 32) a x).toNat < S224x192.size a := fun v9 v407 k0_hw19 => k0_hw19
def k0_off22 (k0_t7 : Fin k0_t7_loop.trips) : Fin 1 → Nat :=
  let c0_i32_271 : BitVec 32 := 0#32
  let c0_i32_212 : BitVec 32 := 0#32
  let c1_i32_214 : BitVec 32 := 1#32
  let arg15 : BitVec 32 := Scf.iv c0_i32_212 c1_i32_214 k0_t7
  let c1_i32_270 : BitVec 32 := 1#32
  let v303 : BitVec 32 := Scalar.muli arg15 c1_i32_270
  let v304 : BitVec 32 := Scalar.addi c0_i32_271 v303
  let c192_i32 : BitVec 32 := 192#32
  let v305 : BitVec 32 := Scalar.muli v304 c192_i32
  let c48_i32_305 : BitVec 32 := 48#32
  let v414 : BitVec 32 := Scalar.addi v305 c48_i32_305
  let v415 : Index := Scalar.indexCast v414
  ![v415.toNat]

def k0_chk20 (v11 : IVec S16 32) (v441 : IVec S16 32) : Prop :=
  (∀ a x, ((![v441, v11] : Fin 2 → IVec S16 32) a x).toNat < S224x192.size a)
theorem k0_idx42_inb : ∀ (v11 : IVec S16 32) (v441 : IVec S16 32) (k0_hw20 : k0_chk20 v11 v441), ∀ a x, ((![v441, v11] : Fin 2 → IVec S16 32) a x).toNat < S224x192.size a := fun v11 v441 k0_hw20 => k0_hw20
def k0_off23 (k0_t7 : Fin k0_t7_loop.trips) : Fin 1 → Nat :=
  let c0_i32_271 : BitVec 32 := 0#32
  let c0_i32_212 : BitVec 32 := 0#32
  let c1_i32_214 : BitVec 32 := 1#32
  let arg15 : BitVec 32 := Scf.iv c0_i32_212 c1_i32_214 k0_t7
  let c1_i32_270 : BitVec 32 := 1#32
  let v303 : BitVec 32 := Scalar.muli arg15 c1_i32_270
  let v304 : BitVec 32 := Scalar.addi c0_i32_271 v303
  let c192_i32 : BitVec 32 := 192#32
  let v305 : BitVec 32 := Scalar.muli v304 c192_i32
  let c64_i32_316 : BitVec 32 := 64#32
  let v448 : BitVec 32 := Scalar.addi v305 c64_i32_316
  let v449 : Index := Scalar.indexCast v448
  ![v449.toNat]

def k0_chk21 (v13 : IVec S16 32) (v475 : IVec S16 32) : Prop :=
  (∀ a x, ((![v475, v13] : Fin 2 → IVec S16 32) a x).toNat < S224x192.size a)
theorem k0_idx43_inb : ∀ (v13 : IVec S16 32) (v475 : IVec S16 32) (k0_hw21 : k0_chk21 v13 v475), ∀ a x, ((![v475, v13] : Fin 2 → IVec S16 32) a x).toNat < S224x192.size a := fun v13 v475 k0_hw21 => k0_hw21
def k0_off24 (k0_t7 : Fin k0_t7_loop.trips) : Fin 1 → Nat :=
  let c0_i32_271 : BitVec 32 := 0#32
  let c0_i32_212 : BitVec 32 := 0#32
  let c1_i32_214 : BitVec 32 := 1#32
  let arg15 : BitVec 32 := Scf.iv c0_i32_212 c1_i32_214 k0_t7
  let c1_i32_270 : BitVec 32 := 1#32
  let v303 : BitVec 32 := Scalar.muli arg15 c1_i32_270
  let v304 : BitVec 32 := Scalar.addi c0_i32_271 v303
  let c192_i32 : BitVec 32 := 192#32
  let v305 : BitVec 32 := Scalar.muli v304 c192_i32
  let c80_i32_327 : BitVec 32 := 80#32
  let v482 : BitVec 32 := Scalar.addi v305 c80_i32_327
  let v483 : Index := Scalar.indexCast v482
  ![v483.toNat]

def k0_chk22 (v15 : IVec S16 32) (v509 : IVec S16 32) : Prop :=
  (∀ a x, ((![v509, v15] : Fin 2 → IVec S16 32) a x).toNat < S224x192.size a)
theorem k0_idx44_inb : ∀ (v15 : IVec S16 32) (v509 : IVec S16 32) (k0_hw22 : k0_chk22 v15 v509), ∀ a x, ((![v509, v15] : Fin 2 → IVec S16 32) a x).toNat < S224x192.size a := fun v15 v509 k0_hw22 => k0_hw22
def k0_off25 (k0_t7 : Fin k0_t7_loop.trips) : Fin 1 → Nat :=
  let c0_i32_271 : BitVec 32 := 0#32
  let c0_i32_212 : BitVec 32 := 0#32
  let c1_i32_214 : BitVec 32 := 1#32
  let arg15 : BitVec 32 := Scf.iv c0_i32_212 c1_i32_214 k0_t7
  let c1_i32_270 : BitVec 32 := 1#32
  let v303 : BitVec 32 := Scalar.muli arg15 c1_i32_270
  let v304 : BitVec 32 := Scalar.addi c0_i32_271 v303
  let c192_i32 : BitVec 32 := 192#32
  let v305 : BitVec 32 := Scalar.muli v304 c192_i32
  let c96_i32_338 : BitVec 32 := 96#32
  let v516 : BitVec 32 := Scalar.addi v305 c96_i32_338
  let v517 : Index := Scalar.indexCast v516
  ![v517.toNat]

def k0_chk23 (v17 : IVec S16 32) (v543 : IVec S16 32) : Prop :=
  (∀ a x, ((![v543, v17] : Fin 2 → IVec S16 32) a x).toNat < S224x192.size a)
theorem k0_idx45_inb : ∀ (v17 : IVec S16 32) (v543 : IVec S16 32) (k0_hw23 : k0_chk23 v17 v543), ∀ a x, ((![v543, v17] : Fin 2 → IVec S16 32) a x).toNat < S224x192.size a := fun v17 v543 k0_hw23 => k0_hw23
def k0_off26 (k0_t7 : Fin k0_t7_loop.trips) : Fin 1 → Nat :=
  let c0_i32_271 : BitVec 32 := 0#32
  let c0_i32_212 : BitVec 32 := 0#32
  let c1_i32_214 : BitVec 32 := 1#32
  let arg15 : BitVec 32 := Scf.iv c0_i32_212 c1_i32_214 k0_t7
  let c1_i32_270 : BitVec 32 := 1#32
  let v303 : BitVec 32 := Scalar.muli arg15 c1_i32_270
  let v304 : BitVec 32 := Scalar.addi c0_i32_271 v303
  let c192_i32 : BitVec 32 := 192#32
  let v305 : BitVec 32 := Scalar.muli v304 c192_i32
  let c112_i32_349 : BitVec 32 := 112#32
  let v550 : BitVec 32 := Scalar.addi v305 c112_i32_349
  let v551 : Index := Scalar.indexCast v550
  ![v551.toNat]

def k0_chk24 (v19 : IVec S16 32) (v577 : IVec S16 32) : Prop :=
  (∀ a x, ((![v577, v19] : Fin 2 → IVec S16 32) a x).toNat < S224x192.size a)
theorem k0_idx46_inb : ∀ (v19 : IVec S16 32) (v577 : IVec S16 32) (k0_hw24 : k0_chk24 v19 v577), ∀ a x, ((![v577, v19] : Fin 2 → IVec S16 32) a x).toNat < S224x192.size a := fun v19 v577 k0_hw24 => k0_hw24
def k0_off27 (k0_t7 : Fin k0_t7_loop.trips) : Fin 1 → Nat :=
  let c0_i32_271 : BitVec 32 := 0#32
  let c0_i32_212 : BitVec 32 := 0#32
  let c1_i32_214 : BitVec 32 := 1#32
  let arg15 : BitVec 32 := Scf.iv c0_i32_212 c1_i32_214 k0_t7
  let c1_i32_270 : BitVec 32 := 1#32
  let v303 : BitVec 32 := Scalar.muli arg15 c1_i32_270
  let v304 : BitVec 32 := Scalar.addi c0_i32_271 v303
  let c192_i32 : BitVec 32 := 192#32
  let v305 : BitVec 32 := Scalar.muli v304 c192_i32
  let c128_i32_360 : BitVec 32 := 128#32
  let v584 : BitVec 32 := Scalar.addi v305 c128_i32_360
  let v585 : Index := Scalar.indexCast v584
  ![v585.toNat]

def k0_chk25 (v21 : IVec S16 32) (v611 : IVec S16 32) : Prop :=
  (∀ a x, ((![v611, v21] : Fin 2 → IVec S16 32) a x).toNat < S224x192.size a)
theorem k0_idx47_inb : ∀ (v21 : IVec S16 32) (v611 : IVec S16 32) (k0_hw25 : k0_chk25 v21 v611), ∀ a x, ((![v611, v21] : Fin 2 → IVec S16 32) a x).toNat < S224x192.size a := fun v21 v611 k0_hw25 => k0_hw25
def k0_off28 (k0_t7 : Fin k0_t7_loop.trips) : Fin 1 → Nat :=
  let c0_i32_271 : BitVec 32 := 0#32
  let c0_i32_212 : BitVec 32 := 0#32
  let c1_i32_214 : BitVec 32 := 1#32
  let arg15 : BitVec 32 := Scf.iv c0_i32_212 c1_i32_214 k0_t7
  let c1_i32_270 : BitVec 32 := 1#32
  let v303 : BitVec 32 := Scalar.muli arg15 c1_i32_270
  let v304 : BitVec 32 := Scalar.addi c0_i32_271 v303
  let c192_i32 : BitVec 32 := 192#32
  let v305 : BitVec 32 := Scalar.muli v304 c192_i32
  let c144_i32_371 : BitVec 32 := 144#32
  let v618 : BitVec 32 := Scalar.addi v305 c144_i32_371
  let v619 : Index := Scalar.indexCast v618
  ![v619.toNat]

def k0_chk26 (v23 : IVec S16 32) (v645 : IVec S16 32) : Prop :=
  (∀ a x, ((![v645, v23] : Fin 2 → IVec S16 32) a x).toNat < S224x192.size a)
theorem k0_idx48_inb : ∀ (v23 : IVec S16 32) (v645 : IVec S16 32) (k0_hw26 : k0_chk26 v23 v645), ∀ a x, ((![v645, v23] : Fin 2 → IVec S16 32) a x).toNat < S224x192.size a := fun v23 v645 k0_hw26 => k0_hw26
def k0_off29 (k0_t7 : Fin k0_t7_loop.trips) : Fin 1 → Nat :=
  let c0_i32_271 : BitVec 32 := 0#32
  let c0_i32_212 : BitVec 32 := 0#32
  let c1_i32_214 : BitVec 32 := 1#32
  let arg15 : BitVec 32 := Scf.iv c0_i32_212 c1_i32_214 k0_t7
  let c1_i32_270 : BitVec 32 := 1#32
  let v303 : BitVec 32 := Scalar.muli arg15 c1_i32_270
  let v304 : BitVec 32 := Scalar.addi c0_i32_271 v303
  let c192_i32 : BitVec 32 := 192#32
  let v305 : BitVec 32 := Scalar.muli v304 c192_i32
  let c160_i32_382 : BitVec 32 := 160#32
  let v652 : BitVec 32 := Scalar.addi v305 c160_i32_382
  let v653 : Index := Scalar.indexCast v652
  ![v653.toNat]

def k0_chk27 (v25 : IVec S16 32) (v679 : IVec S16 32) : Prop :=
  (∀ a x, ((![v679, v25] : Fin 2 → IVec S16 32) a x).toNat < S224x192.size a)
theorem k0_idx49_inb : ∀ (v25 : IVec S16 32) (v679 : IVec S16 32) (k0_hw27 : k0_chk27 v25 v679), ∀ a x, ((![v679, v25] : Fin 2 → IVec S16 32) a x).toNat < S224x192.size a := fun v25 v679 k0_hw27 => k0_hw27
def k0_off30 (k0_t7 : Fin k0_t7_loop.trips) : Fin 1 → Nat :=
  let c0_i32_271 : BitVec 32 := 0#32
  let c0_i32_212 : BitVec 32 := 0#32
  let c1_i32_214 : BitVec 32 := 1#32
  let arg15 : BitVec 32 := Scf.iv c0_i32_212 c1_i32_214 k0_t7
  let c1_i32_270 : BitVec 32 := 1#32
  let v303 : BitVec 32 := Scalar.muli arg15 c1_i32_270
  let v304 : BitVec 32 := Scalar.addi c0_i32_271 v303
  let c192_i32 : BitVec 32 := 192#32
  let v305 : BitVec 32 := Scalar.muli v304 c192_i32
  let c176_i32_393 : BitVec 32 := 176#32
  let v686 : BitVec 32 := Scalar.addi v305 c176_i32_393
  let v687 : Index := Scalar.indexCast v686
  ![v687.toNat]

def k0_chk28 (v27 : IVec S16 32) (v713 : IVec S16 32) : Prop :=
  (∀ a x, ((![v713, v27] : Fin 2 → IVec S16 32) a x).toNat < S224x192.size a)
theorem k0_idx50_inb : ∀ (v27 : IVec S16 32) (v713 : IVec S16 32) (k0_hw28 : k0_chk28 v27 v713), ∀ a x, ((![v713, v27] : Fin 2 → IVec S16 32) a x).toNat < S224x192.size a := fun v27 v713 k0_hw28 => k0_hw28
def k0_off31 (i : grid0.Coords) (c384_i32 : BitVec 32) (c0_i32_12 : BitVec 32) (c0_i32_14 : BitVec 32) : Fin 5 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v31 : BitVec 32 := Scalar.addi c384_i32 v1
  let c224_i32_9 : BitVec 32 := 224#32
  let v32 : BitVec 1 := Scalar.cmpi .sge v31 c224_i32_9
  let v33 : BitVec 32 := Scalar.extui v32
  let c2_i32_11 : BitVec 32 := 2#32
  let c224_i32_10 : BitVec 32 := 224#32
  let v34 : BitVec 32 := Scalar.muli v33 c224_i32_10
  let v35 : BitVec 32 := Scalar.subi v31 v34
  let c586_i32 : BitVec 32 := 586#32
  let v36 : BitVec 32 := Scalar.muli v35 c586_i32
  let c14_i32 : BitVec 32 := 14#32
  let v37 : BitVec 32 := Scalar.shrsi v36 c14_i32
  let v40 : BitVec 32 := Scalar.muli c2_i32_11 v37
  let v41 : BitVec 32 := Scalar.addi v40 c0_i32_12
  let c2_i32_13 : BitVec 32 := 2#32
  let c28_i32 : BitVec 32 := 28#32
  let v38 : BitVec 32 := Scalar.muli v37 c28_i32
  let v39 : BitVec 32 := Scalar.subi v35 v38
  let v42 : BitVec 32 := Scalar.muli c2_i32_13 v39
  let v43 : BitVec 32 := Scalar.addi v42 c0_i32_14
  let c0_i32_29 : BitVec 32 := 0#32
  let c0_i32_30 : BitVec 32 := 0#32
  ![v33.toNat, v41.toNat, v43.toNat, 0, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S2x192x8x28x28 : Shape := ⟨5, ![2, 192, 8, 28, 28]⟩
abbrev S2x192x6272 : Shape := ⟨3, ![2, 192, 6272]⟩
abbrev S_ : Shape := ⟨0, ![]⟩
abbrev S2x192x50176 : Shape := ⟨3, ![2, 192, 50176]⟩
abbrev S2 : Shape := ⟨1, ![2]⟩
abbrev S2x1x1 : Shape := ⟨3, ![2, 1, 1]⟩
abbrev S192 : Shape := ⟨1, ![192]⟩
abbrev S1x192x1 : Shape := ⟨3, ![1, 192, 1]⟩
abbrev S2x192x6272x1 : Shape := ⟨4, ![2, 192, 6272, 1]⟩
abbrev S2x192x6272x3 : Shape := ⟨4, ![2, 192, 6272, 3]⟩
abbrev S2x192x16x56x56 : Shape := ⟨5, ![2, 192, 16, 56, 56]⟩

abbrev nBuf : Space → Nat
  | .hbm => 39
  | .vmem => 0
  | .smem => 0
  | _ => 0

abbrev bufTy : (tb : Table) → Fin (tcTables nBuf tb) → BufTy
  | .hbm, ⟨0, _⟩ => ⟨S2x192x8x28x28, .f32⟩
  | .hbm, ⟨1, _⟩ => ⟨S2x192x8x28x28, .i32⟩
  | .hbm, ⟨2, _⟩ => ⟨S2x192x6272, .f32⟩
  | .hbm, ⟨3, _⟩ => ⟨S2x192x6272, .i32⟩
  | .hbm, ⟨4, _⟩ => ⟨S_, .f32⟩
  | .hbm, ⟨5, _⟩ => ⟨S2x192x50176, .f32⟩
  | .hbm, ⟨6, _⟩ => ⟨S2, .i32⟩
  | .hbm, ⟨7, _⟩ => ⟨S2x1x1, .i32⟩
  | .hbm, ⟨8, _⟩ => ⟨S192, .i32⟩
  | .hbm, ⟨9, _⟩ => ⟨S1x192x1, .i32⟩
  | .hbm, ⟨10, _⟩ => ⟨S_, .i32⟩
  | .hbm, ⟨11, _⟩ => ⟨S2x1x1, .i32⟩
  | .hbm, ⟨12, _⟩ => ⟨S2x1x1, .i1⟩
  | .hbm, ⟨13, _⟩ => ⟨S_, .i32⟩
  | .hbm, ⟨14, _⟩ => ⟨S2x1x1, .i32⟩
  | .hbm, ⟨15, _⟩ => ⟨S2x1x1, .i32⟩
  | .hbm, ⟨16, _⟩ => ⟨S2x1x1, .i32⟩
  | .hbm, ⟨17, _⟩ => ⟨S_, .i32⟩
  | .hbm, ⟨18, _⟩ => ⟨S1x192x1, .i32⟩
  | .hbm, ⟨19, _⟩ => ⟨S1x192x1, .i1⟩
  | .hbm, ⟨20, _⟩ => ⟨S_, .i32⟩
  | .hbm, ⟨21, _⟩ => ⟨S1x192x1, .i32⟩
  | .hbm, ⟨22, _⟩ => ⟨S1x192x1, .i32⟩
  | .hbm, ⟨23, _⟩ => ⟨S1x192x1, .i32⟩
  | .hbm, ⟨24, _⟩ => ⟨S_, .i32⟩
  | .hbm, ⟨25, _⟩ => ⟨S2x192x6272, .i32⟩
  | .hbm, ⟨26, _⟩ => ⟨S2x192x6272, .i1⟩
  | .hbm, ⟨27, _⟩ => ⟨S_, .i32⟩
  | .hbm, ⟨28, _⟩ => ⟨S2x192x6272, .i32⟩
  | .hbm, ⟨29, _⟩ => ⟨S2x192x6272, .i32⟩
  | .hbm, ⟨30, _⟩ => ⟨S2x192x6272, .i32⟩
  | .hbm, ⟨31, _⟩ => ⟨S2x192x6272, .i32⟩
  | .hbm, ⟨32, _⟩ => ⟨S2x192x6272, .i32⟩
  | .hbm, ⟨33, _⟩ => ⟨S2x192x6272x1, .i32⟩
  | .hbm, ⟨34, _⟩ => ⟨S2x192x6272x1, .i32⟩
  | .hbm, ⟨35, _⟩ => ⟨S2x192x6272x1, .i32⟩
  | .hbm, ⟨36, _⟩ => ⟨S2x192x6272x3, .i32⟩
  | .hbm, ⟨37, _⟩ => ⟨S2x192x50176, .f32⟩
  | .hbm, ⟨38, _⟩ => ⟨S2x192x16x56x56, .f32⟩
  | _, _ => ⟨S2x192x8x28x28, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_c : Ref sig .tc := ⟨.hbm, 10, rfl⟩
abbrev main_v7 : Ref sig .tc := ⟨.hbm, 11, rfl⟩
abbrev main_v8 : Ref sig .tc := ⟨.hbm, 12, rfl⟩
abbrev main_c_0 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_c_1 : Ref sig .tc := ⟨.hbm, 17, rfl⟩
abbrev main_v12 : Ref sig .tc := ⟨.hbm, 18, rfl⟩
abbrev main_v13 : Ref sig .tc := ⟨.hbm, 19, rfl⟩
abbrev main_c_2 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_c_3 : Ref sig .tc := ⟨.hbm, 24, rfl⟩
abbrev main_v17 : Ref sig .tc := ⟨.hbm, 25, rfl⟩
abbrev main_v18 : Ref sig .tc := ⟨.hbm, 26, rfl⟩
abbrev main_c_4 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩

abbrev nD : Nat := 1
abbrev τ : Topo := Topo.v7x

variable {F : FTy → Type} [FloatOps F]
-- ==== Proof.Pure.lean ====
/- The arithmetic of the unpooling kernel, apart from any program: which slab element a pooled
   element is written to, the words the kernel computes for it, and what the slab and the index row
   hold after the first `n` pooled elements of a row have been dealt with. -/
module

public import proofs.«01_k».proof.Proof.Gen.KernelIdeal
public import proofs.«01_k».proof.Proof.Gen.KernelIdeal.Skeleton

@[expose] public section

noncomputable section

namespace Cert.Proof.Unpool

open Cert.KernelIdeal Cert.KernelIdeal.Gen Idealize.ShloMosaic

/-! ## The scatter of one vector -/

section Scatter
variable {F : FTy → Type} [FloatOps F] {s : Shape} {e : EltTy} {d : Fin 1 → Nat}

/-- One lane of the scatter. -/
def scatterStep (idxs : Fin s.rank → IVec ⟨1, d⟩ 32) (v : Vec F ⟨1, d⟩ e) (g : Vec F s e) (k : Fin (d 0)) : Vec F s e := by
  classical
  exact fun j => if ∀ a, (j a).val = (idxs a (Shape.ofLane k)).toNat then v (Shape.ofLane k) else g j

theorem storeIdx_eq (f : Vec F s e) (idxs : Fin s.rank → IVec ⟨1, d⟩ 32) (v : Vec F ⟨1, d⟩ e)
    (h : ∀ a x, (idxs a x).toNat < s.size a) :
    storeIdx f idxs v (fun _ => 1#1) false h = (List.finRange (d 0)).foldl (scatterStep idxs v) f := by
  unfold storeIdx
  congr 1
  funext g k j
  unfold scatterStep
  refine (congrFun (if_pos rfl) j).trans ?_
  by_cases hk : ∀ a, (j a).val = (idxs a (Shape.ofLane k)).toNat
  · rw [if_pos hk]; exact if_pos hk
  · rw [if_neg hk]; exact if_neg hk

theorem scatterStep_hit (idxs : Fin s.rank → IVec ⟨1, d⟩ 32) (v : Vec F ⟨1, d⟩ e)
    (g : Vec F s e) (k : Fin (d 0)) (j : s.Idx) (hk : ∀ a, (j a).val = (idxs a (Shape.ofLane k)).toNat) :
    scatterStep idxs v g k j = v (Shape.ofLane k) := if_pos hk

theorem scatterStep_miss (idxs : Fin s.rank → IVec ⟨1, d⟩ 32) (v : Vec F ⟨1, d⟩ e)
    (g : Vec F s e) (k : Fin (d 0)) (j : s.Idx) (hk : ¬ ∀ a, (j a).val = (idxs a (Shape.ofLane k)).toNat) :
    scatterStep idxs v g k j = g j := if_neg hk

/-- An element that no lane names keeps its value. -/
theorem storeIdx_miss (f : Vec F s e) (idxs : Fin s.rank → IVec ⟨1, d⟩ 32) (v : Vec F ⟨1, d⟩ e)
    (h : ∀ a x, (idxs a x).toNat < s.size a) (j : s.Idx) (hm : ∀ x, ¬ ∀ a, (j a).val = (idxs a x).toNat) :
    storeIdx f idxs v (fun _ => 1#1) false h j = f j := by
  rw [storeIdx_eq]
  generalize List.finRange (d 0) = l
  induction l generalizing f with
  | nil => rfl
  | cons k l ih =>
    simp only [List.foldl_cons]
    rw [ih]
    exact scatterStep_miss idxs v f k j (hm _)

/-- An element that some lane names, every lane that names it carrying the same value, holds that value. -/
theorem storeIdx_hit (f : Vec F s e) (idxs : Fin s.rank → IVec ⟨1, d⟩ 32) (v : Vec F ⟨1, d⟩ e)
    (h : ∀ a x, (idxs a x).toNat < s.size a) (j : s.Idx) (x₀ : (⟨1, d⟩ : Shape).Idx) (hx₀ : ∀ a, (j a).val = (idxs a x₀).toNat)
    (y : Elt F e) (hv : ∀ x, (∀ a, (j a).val = (idxs a x).toNat) → v x = y) :
    storeIdx f idxs v (fun _ => 1#1) false h j = y := by
  have key : ∀ (l : List (Fin (d 0))) (g : Vec F s e), (g j = y ∨ ∃ k ∈ l, Shape.ofLane k = x₀) →
      (l.foldl (scatterStep idxs v) g) j = y := by
    intro l
    induction l with
    | nil => rintro g (hg | ⟨k, hk, _⟩); exacts [hg, absurd hk List.not_mem_nil]
    | cons k l ih =>
      intro g hg
      simp only [List.foldl_cons]
      refine ih _ ?_
      by_cases hk : ∀ a, (j a).val = (idxs a (Shape.ofLane k)).toNat
      · left; exact (scatterStep_hit idxs v g k j hk).trans (hv _ hk)
      · rcases hg with hg | ⟨k', hk', he⟩
        · left; exact (scatterStep_miss idxs v g k j hk).trans hg
        · rcases List.mem_cons.1 hk' with rfl | hk'
          · exact absurd (he ▸ hx₀) hk
          · exact .inr ⟨k', hk', he⟩
  rw [storeIdx_eq]
  refine key _ f (.inr ⟨x₀ 0, List.mem_finRange _, ?_⟩)
  funext a; obtain rfl := Fin.eq_zero a; rfl

end Scatter

/-! ## Where a pooled element goes

Pooled elements of a row are numbered `e = 192 * w + ch`. `B` is the flat output position of the row's first window; the word stored
for `e` is `B + 2 * w + 3136 * a + 56 * b + cw`, and the slab element written is row `112 * a + 56 * b + 2 * w + cw`, channel `ch`. -/

/-- The slab row that the index word `x` of element `e` names. -/
def rowOf (B e x : ℕ) : ℕ :=
  (x - (B + 2 * (e / 192))) / 3136 * 112 + (x - (B + 2 * (e / 192))) % 3136 / 56 * 56 + (x - (B + 2 * (e / 192))) % 56 + 2 * (e / 192)

/-- Every index word of a row names a position of its own window. -/
def Wf (B : ℕ) (ix : ℕ → BitVec 32) : Prop :=
  ∀ e < 5376, ∃ a b c : ℕ, a < 2 ∧ b < 2 ∧ c < 2 ∧ (ix e).toNat = B + 2 * (e / 192) + (3136 * a + 56 * b + c)

theorem rowOf_eq {B e x a b c : ℕ} (ha : a < 2) (hb : b < 2) (hc : c < 2) (hx : x = B + 2 * (e / 192) + (3136 * a + 56 * b + c)) :
    rowOf B e x = 112 * a + 56 * b + c + 2 * (e / 192) := by
  unfold rowOf
  have : x - (B + 2 * (e / 192)) = 3136 * a + 56 * b + c := by omega
  rw [this]
  obtain rfl | rfl : a = 0 ∨ a = 1 := by omega
  all_goals obtain rfl | rfl : b = 0 ∨ b = 1 := by omega
  all_goals obtain rfl | rfl : c = 0 ∨ c = 1 := by omega
  all_goals omega

theorem rowOf_lt {B e x a b c : ℕ} (ha : a < 2) (hb : b < 2) (hc : c < 2) (he : e < 5376)
    (hx : x = B + 2 * (e / 192) + (3136 * a + 56 * b + c)) : rowOf B e x < 224 := by
  rw [rowOf_eq ha hb hc hx]; omega

theorem rowOf_window {B e x a b c : ℕ} (ha : a < 2) (hb : b < 2) (hc : c < 2) (he : e < 5376)
    (hx : x = B + 2 * (e / 192) + (3136 * a + 56 * b + c)) : rowOf B e x % 56 / 2 = e / 192 := by
  rw [rowOf_eq ha hb hc hx]
  obtain rfl | rfl : a = 0 ∨ a = 1 := by omega
  all_goals obtain rfl | rfl : b = 0 ∨ b = 1 := by omega
  all_goals obtain rfl | rfl : c = 0 ∨ c = 1 := by omega
  all_goals omega

/-- The pooled element whose window holds a slab element. -/
def src (j0 j1 : ℕ) : ℕ := j0 % 56 / 2 * 192 + j1

/-- What the kernel leaves in the index row in place of element `e`'s word: the slab row and the channel, packed. -/
def packed (B : ℕ) (ix : ℕ → BitVec 32) (e : ℕ) : BitVec 32 := BitVec.ofNat 32 (rowOf B e (ix e).toNat * 256 + e % 192)

/-- The index row once the first `n` elements have been dealt with. -/
def ibufAt (B : ℕ) (ix : ℕ → BitVec 32) (n : ℕ) : S5376.Idx → BitVec 32 :=
  fun x => if (x 0).val < n then packed B ix (x 0).val else ix (x 0).val

/-- The slab once the first `n` elements have been written to it, `z` elsewhere. -/
def slabAt {X : Type} (z : X) (B : ℕ) (ix : ℕ → BitVec 32) (vl : ℕ → X) (n : ℕ) : S224x192.Idx → X := fun j =>
  if src (j 0).val (j 1).val < n ∧ rowOf B (src (j 0).val (j 1).val) (ix (src (j 0).val (j 1).val)).toNat = (j 0).val
  then vl (src (j 0).val (j 1).val) else z

/-- The slab once the first `n` elements have been cleared again. -/
def clearAt {X : Type} (z : X) (B : ℕ) (ix : ℕ → BitVec 32) (vl : ℕ → X) (n : ℕ) : S224x192.Idx → X := fun j =>
  if src (j 0).val (j 1).val < n then z else slabAt z B ix vl 5376 j

/-- The slab once its first `n` elements, in row-major order, have been set to `z`. -/
def fillAt {X : Type} (z : X) (g : S224x192.Idx → X) (n : ℕ) : S224x192.Idx → X := fun j =>
  if (j 0).val * 192 + (j 1).val < n then z else g j

theorem j0_lt (j : S224x192.Idx) : (j 0).val < 224 := (j 0).isLt
theorem j1_lt (j : S224x192.Idx) : (j 1).val < 192 := (j 1).isLt
theorem y0_lt (y : S16.Idx) : (y 0).val < 16 := (y 0).isLt
theorem x0_lt (x : S5376.Idx) : (x 0).val < 5376 := (x 0).isLt

/-- Lane `k` of a vector. -/
def lane (k : ℕ) (h : k < 16) : S16.Idx := Shape.ofLane (d := ![16]) ⟨k, h⟩
theorem lane_val (k : ℕ) (h : k < 16) : (lane k h 0).val = k := rfl

theorem src_lt (j : S224x192.Idx) : src (j 0).val (j 1).val < 5376 := by
  have := j0_lt j; have := j1_lt j; unfold src; omega

theorem slabAt_zero {X : Type} (z : X) (B : ℕ) (ix : ℕ → BitVec 32) (vl : ℕ → X) : slabAt z B ix vl 0 = fun _ => z := by
  funext j; simp [slabAt]
theorem clearAt_zero {X : Type} (z : X) (B : ℕ) (ix : ℕ → BitVec 32) (vl : ℕ → X) : clearAt z B ix vl 0 = slabAt z B ix vl 5376 := by
  funext j; simp [clearAt]
theorem clearAt_all {X : Type} (z : X) (B : ℕ) (ix : ℕ → BitVec 32) (vl : ℕ → X) : clearAt z B ix vl 5376 = fun _ => z := by
  funext j; simp [clearAt, src_lt j]
theorem fillAt_zero {X : Type} (z : X) (g : S224x192.Idx → X) : fillAt z g 0 = g := by
  funext j; simp [fillAt]
theorem fillAt_all {X : Type} (z : X) (g : S224x192.Idx → X) : fillAt z g (192 * 224) = fun _ => z := by
  funext j; have := j0_lt j; have := j1_lt j; unfold fillAt; rw [if_pos (by omega)]
theorem ibufAt_zero (B : ℕ) (ix : ℕ → BitVec 32) : ibufAt B ix 0 = fun x => ix (x 0).val := by
  funext x; simp [ibufAt]
theorem ibufAt_all (B : ℕ) (ix : ℕ → BitVec 32) : ibufAt B ix 5376 = fun x => packed B ix (x 0).val := by
  funext x; simp [ibufAt, x0_lt x]

/-! ## One vector of sixteen elements -/

section Steps
variable {F : FTy → Type} [FloatOps F] (z : F .f32) {B : ℕ} {ix : ℕ → BitVec 32} (vl : ℕ → F .f32)

theorem forall_ax {P : Fin S224x192.rank → Prop} : (∀ a, P a) ↔ P 0 ∧ P 1 :=
  ⟨fun h => ⟨h 0, h 1⟩, fun h a => by
    match a with
    | ⟨0, _⟩ => exact h.1
    | ⟨1, _⟩ => exact h.2⟩

/-- One more vector of a row written: elements `192 * w + c` to `192 * w + c + 15`. -/
theorem slab_step (hwf : Wf B ix) {w c : ℕ} (hw : w < 28) (hc : c + 16 ≤ 192) (row col : IVec S16 32) (v : Vec F S16 .f32)
    (hrow : ∀ y : S16.Idx, (row y).toNat = rowOf B (192 * w + c + (y 0).val) (ix (192 * w + c + (y 0).val)).toNat)
    (hcol : ∀ y : S16.Idx, (col y).toNat = c + (y 0).val)
    (hv : ∀ y : S16.Idx, v y = vl (192 * w + c + (y 0).val))
    (h : ∀ a x, ((![row, col] : Fin 2 → IVec S16 32) a x).toNat < S224x192.size a) :
    storeIdx (F := F) (s := S224x192) (e := .f32) (slabAt z B ix vl (192 * w + c)) ![row, col] v (fun _ => 1#1) false h
      = slabAt z B ix vl (192 * w + (c + 16)) := by
  funext j
  have hj0 := j0_lt j; have hj1 := j1_lt j
  have hit : ∀ y : S16.Idx, (∀ a, (j a).val = ((![row, col] : Fin 2 → IVec S16 32) a y).toNat) →
      src (j 0).val (j 1).val = 192 * w + c + (y 0).val
        ∧ (j 0).val = rowOf B (192 * w + c + (y 0).val) (ix (192 * w + c + (y 0).val)).toNat := by
    intro y hy
    have h0 : (j 0).val = rowOf B (192 * w + c + (y 0).val) (ix (192 * w + c + (y 0).val)).toNat := (hy 0).trans (hrow y)
    have h1 : (j 1).val = c + (y 0).val := (hy 1).trans (hcol y)
    have hy16 := y0_lt y
    obtain ⟨a, b, cc, ha, hb, hcc, hx⟩ := hwf (192 * w + c + (y 0).val) (by omega)
    have hw' := rowOf_window ha hb hcc (by omega) hx
    refine ⟨?_, h0⟩
    unfold src; rw [h0, hw', h1]; omega
  by_cases hex : ∃ y : S16.Idx, ∀ a, (j a).val = ((![row, col] : Fin 2 → IVec S16 32) a y).toNat
  · obtain ⟨y, hy⟩ := hex
    obtain ⟨hs, hr⟩ := hit y hy
    have hy16 := y0_lt y
    rw [storeIdx_hit _ _ v h j y hy (vl (src (j 0).val (j 1).val)) fun y' hy' => by rw [hv y', (hit y' hy').1]]
    rw [slabAt, if_pos]
    rw [hs]; exact ⟨by omega, hr.symm⟩
  · rw [storeIdx_miss _ _ v h j fun y hy => hex ⟨y, hy⟩]
    unfold slabAt
    by_cases hlt : src (j 0).val (j 1).val < 192 * w + c
    · have hlt' : src (j 0).val (j 1).val < 192 * w + (c + 16) := by omega
      simp only [hlt, hlt', true_and]
    · rw [if_neg fun hh => hlt hh.1, if_neg]
      rintro ⟨hlt', hr⟩
      refine hex ⟨lane (src (j 0).val (j 1).val - (192 * w + c)) (by omega), forall_ax.2 ⟨?_, ?_⟩⟩
      · have e : 192 * w + c + (src (j 0).val (j 1).val - (192 * w + c)) = src (j 0).val (j 1).val := by omega
        refine Eq.trans ?_ (hrow _).symm
        show _ = rowOf B (192 * w + c + (src (j 0).val (j 1).val - (192 * w + c))) (ix (192 * w + c + (src (j 0).val (j 1).val - (192 * w + c)))).toNat
        rw [e, hr]
      · refine Eq.trans ?_ (hcol _).symm
        show _ = c + (src (j 0).val (j 1).val - (192 * w + c))
        unfold src at hlt hlt' ⊢; omega

/-- One more vector of a row cleared. -/
theorem clear_step (hwf : Wf B ix) {n : ℕ} (hn : n + 16 ≤ 5376) (row col : IVec S16 32) (v : Vec F S16 .f32)
    (hrow : ∀ y : S16.Idx, (row y).toNat = rowOf B (n + (y 0).val) (ix (n + (y 0).val)).toNat)
    (hcol : ∀ y : S16.Idx, (col y).toNat = (n + (y 0).val) % 192)
    (hv : ∀ y : S16.Idx, v y = z)
    (h : ∀ a x, ((![row, col] : Fin 2 → IVec S16 32) a x).toNat < S224x192.size a) :
    storeIdx (F := F) (s := S224x192) (e := .f32) (clearAt z B ix vl n) ![row, col] v (fun _ => 1#1) false h
      = clearAt z B ix vl (n + 16) := by
  funext j
  have hj0 := j0_lt j; have hj1 := j1_lt j
  by_cases hex : ∃ y : S16.Idx, ∀ a, (j a).val = ((![row, col] : Fin 2 → IVec S16 32) a y).toNat
  · obtain ⟨y, hy⟩ := hex
    have h0 : (j 0).val = rowOf B (n + (y 0).val) (ix (n + (y 0).val)).toNat := (hy 0).trans (hrow y)
    have h1 : (j 1).val = (n + (y 0).val) % 192 := (hy 1).trans (hcol y)
    have hy16 := y0_lt y
    obtain ⟨a, b, cc, ha, hb, hcc, hx⟩ := hwf (n + (y 0).val) (by omega)
    have hw' := rowOf_window ha hb hcc (by omega) hx
    rw [storeIdx_hit _ _ v h j y hy z fun y' _ => hv y', clearAt, if_pos]
    unfold src; rw [h0, hw', h1]; omega
  · rw [storeIdx_miss _ _ v h j fun y hy => hex ⟨y, hy⟩]
    unfold clearAt
    by_cases hlt : src (j 0).val (j 1).val < n
    · rw [if_pos hlt, if_pos (by omega)]
    · rw [if_neg hlt]
      split
      · rename_i hlt'
        unfold slabAt
        rw [if_neg]
        rintro ⟨_, hr⟩
        refine hex ⟨lane (src (j 0).val (j 1).val - n) (by omega), forall_ax.2 ⟨?_, ?_⟩⟩
        · have e : n + (src (j 0).val (j 1).val - n) = src (j 0).val (j 1).val := by omega
          refine Eq.trans ?_ (hrow _).symm
          show _ = rowOf B (n + (src (j 0).val (j 1).val - n)) (ix (n + (src (j 0).val (j 1).val - n))).toNat
          rw [e, hr]
        · refine Eq.trans ?_ (hcol _).symm
          show _ = (n + (src (j 0).val (j 1).val - n)) % 192
          unfold src at hlt hlt' ⊢; omega
      · rfl

/-- One more vector of the slab set to `z`: row `t`, channels `c` to `c + 15`. -/
theorem fill_step (g : Vec F S224x192 .f32) {t c : ℕ} (hc : c + 16 ≤ 192) (row col : IVec S16 32) (v : Vec F S16 .f32)
    (hrow : ∀ y : S16.Idx, (row y).toNat = t)
    (hcol : ∀ y : S16.Idx, (col y).toNat = c + (y 0).val)
    (hv : ∀ y : S16.Idx, v y = z)
    (h : ∀ a x, ((![row, col] : Fin 2 → IVec S16 32) a x).toNat < S224x192.size a) :
    storeIdx (F := F) (s := S224x192) (e := .f32) (fillAt z g (192 * t + c)) ![row, col] v (fun _ => 1#1) false h
      = fillAt z g (192 * t + (c + 16)) := by
  funext j
  have hj0 := j0_lt j; have hj1 := j1_lt j
  by_cases hex : ∃ y : S16.Idx, ∀ a, (j a).val = ((![row, col] : Fin 2 → IVec S16 32) a y).toNat
  · obtain ⟨y, hy⟩ := hex
    have h0 : (j 0).val = t := (hy 0).trans (hrow y)
    have h1 : (j 1).val = c + (y 0).val := (hy 1).trans (hcol y)
    have hy16 := y0_lt y
    rw [storeIdx_hit _ _ v h j y hy z fun y' _ => hv y', fillAt, if_pos (by omega)]
  · rw [storeIdx_miss _ _ v h j fun y hy => hex ⟨y, hy⟩]
    unfold fillAt
    by_cases hlt : (j 0).val * 192 + (j 1).val < 192 * t + c
    · rw [if_pos hlt, if_pos (by omega)]
    · rw [if_neg hlt, if_neg]
      intro hlt'
      refine hex ⟨lane ((j 0).val * 192 + (j 1).val - (192 * t + c)) (by omega), forall_ax.2 ⟨?_, ?_⟩⟩
      · refine Eq.trans ?_ (hrow _).symm; omega
      · refine Eq.trans ?_ (hcol _).symm
        show _ = c + ((j 0).val * 192 + (j 1).val - (192 * t + c)); omega

end Steps

/-! ## The words the kernel computes -/

/-- The lane numbers. -/
abbrev lanes : IVec S16 32 := iota .scVector S16 32 [0] iota_S16_d0_w32_scVector

/-- The channels of a vector, from its first. -/
def colVec (c : ℕ) : IVec S16 32 := addi lanes (broadcast S16 (BitVec.ofNat 32 c))

theorem lanes_apply (y : S16.Idx) : lanes y = BitVec.ofNat 32 (y 0).val := by
  have : (y 0).val < 16 := (y 0).isLt
  revert y; decide

theorem colVec_toNat {c : ℕ} (hc : c + 16 ≤ 192) (y : S16.Idx) : (colVec c y).toNat = c + (y 0).val := by
  have := y0_lt y
  show (lanes y + BitVec.ofNat 32 c).toNat = _
  rw [lanes_apply, BitVec.toNat_add, BitVec.toNat_ofNat, BitVec.toNat_ofNat]; omega

/-- The word subtracted from the index words of window column `w`, as the kernel computes it. -/
def baseVec (v3 : IVec S16 32) (v165 w : BitVec 32) : IVec S16 32 :=
  addi (muli v3 (broadcast S16 0#32)) (broadcast S16 (Scalar.addi v165 (Scalar.muli 2#32 w)))

/-- The slab rows of a vector of index words, as the kernel computes them. -/
def rowVec (base : IVec S16 32) (w : BitVec 32) (x : IVec S16 32) : IVec S16 32 :=
  have off : IVec S16 32 := subi x base
  have a : IVec S16 32 := extui 32 (cmpi .sge off (broadcast S16 3136#32)) natLt_1_32
  have off2 : IVec S16 32 := subi off (muli a (broadcast S16 3136#32))
  have b : IVec S16 32 := extui 32 (cmpi .sge off2 (broadcast S16 56#32)) natLt_1_32
  have rem : IVec S16 32 := subi off2 (muli b (broadcast S16 56#32))
  addi (addi (addi (muli a (broadcast S16 112#32)) (muli b (broadcast S16 56#32))) (broadcast S16 (Scalar.muli 2#32 w))) rem

/-- The packed words of a vector, as the kernel computes them. -/
def packVec (row col : IVec S16 32) : IVec S16 32 := ori (shli row (broadcast S16 8#32)) col

/-- The slab rows and the channels unpacked again, as the kernel computes them. -/
def unpackRow (x : IVec S16 32) : IVec S16 32 := shrsi x (broadcast S16 8#32)
def unpackCol (x : IVec S16 32) : IVec S16 32 := andi x (broadcast S16 255#32)

/-- One lane of `rowVec`: from the offset `K` within the window and twice the window's column. -/
def rowWord (K w2 : BitVec 32) : BitVec 32 :=
  let a := (IntOp.cmpi .sge K 3136#32).setWidth 32
  let b := (IntOp.cmpi .sge (K - a * 3136#32) 56#32).setWidth 32
  a * 112#32 + b * 56#32 + w2 + (K - a * 3136#32 - b * 56#32)

theorem rowWord_toNat {a b c : ℕ} (ha : a < 2) (hb : b < 2) (hc : c < 2) {w2 : BitVec 32} (hw : w2.toNat < 1000) :
    (rowWord (BitVec.ofNat 32 (3136 * a + 56 * b + c)) w2).toNat = 112 * a + 56 * b + c + w2.toNat := by
  have h : ∀ a b c : Fin 2, rowWord (BitVec.ofNat 32 (3136 * a.val + 56 * b.val + c.val)) 0#32
      = BitVec.ofNat 32 (112 * a.val + 56 * b.val + c.val) := by decide
  have hs : ∀ K, rowWord K w2 = rowWord K 0#32 + w2 := by
    intro K; unfold rowWord; simp only [BitVec.add_zero]; ac_rfl
  rw [hs, h ⟨a, ha⟩ ⟨b, hb⟩ ⟨c, hc⟩, BitVec.toNat_add, BitVec.toNat_ofNat]; simp only; omega

theorem rowVec_toNat {v3 : IVec S16 32} {v165 w : BitVec 32} {x : IVec S16 32} {B e : ℕ} {y : S16.Idx}
    (hB : v165.toNat = B) (hBlt : B < 1000000) (hw : w.toNat = e / 192) (he : e < 5376) {a b c : ℕ} (ha : a < 2) (hb : b < 2) (hc : c < 2)
    (hx : (x y).toNat = B + 2 * (e / 192) + (3136 * a + 56 * b + c)) :
    (rowVec (baseVec v3 v165 w) w x y).toNat = rowOf B e (x y).toNat := by
  rw [rowOf_eq ha hb hc hx]
  have hoff : x y - baseVec v3 v165 w y = BitVec.ofNat 32 (3136 * a + 56 * b + c) := by
    have hbase : (baseVec v3 v165 w y).toNat = B + 2 * (e / 192) := by
      show ((v3 y * 0#32) + (v165 + 2#32 * w)).toNat = _
      simp only [BitVec.mul_zero, BitVec.zero_add, BitVec.toNat_add, BitVec.toNat_mul, hB, hw]
      simp only [BitVec.toNat_ofNat]; omega
    apply BitVec.eq_of_toNat_eq
    rw [BitVec.toNat_sub, hbase, hx, BitVec.toNat_ofNat]; omega
  have h2w : (2#32 * w).toNat = 2 * (e / 192) := by
    rw [BitVec.toNat_mul, hw]; simp only [BitVec.toNat_ofNat]; omega
  show (rowWord (x y - baseVec v3 v165 w y) (2#32 * w)).toNat = _
  rw [hoff, rowWord_toNat ha hb hc (by rw [h2w]; omega), h2w]

theorem packVec_eq {row col : IVec S16 32} {y : S16.Idx} {r c : ℕ} (hr : (row y).toNat = r) (hr' : r < 224) (hc : (col y).toNat = c)
    (hc' : c < 192) : packVec row col y = BitVec.ofNat 32 (r * 256 + c) := by
  show IntOp.shli .vector (row y) 8#32 ||| col y = _
  have hrow : row y = BitVec.ofNat 32 r := by apply BitVec.eq_of_toNat_eq; rw [hr, BitVec.toNat_ofNat]; omega
  have hcol : col y = BitVec.ofNat 32 c := by apply BitVec.eq_of_toNat_eq; rw [hc, BitVec.toNat_ofNat]; omega
  have hsh : IntOp.shli .vector (row y) 8#32 = row y <<< (8#32) := rfl
  rw [hsh]
  apply BitVec.eq_of_toNat_eq
  rw [BitVec.toNat_or, BitVec.toNat_ofNat, hc]
  have : (row y <<< 8#32).toNat = r <<< 8 := by
    rw [BitVec.shiftLeft_eq', BitVec.toNat_shiftLeft, hr]
    show r <<< 8 % 2 ^ 32 = _
    rw [Nat.shiftLeft_eq]; omega
  rw [this, ← Nat.shiftLeft_add_eq_or_of_lt (by omega : c < 2 ^ 8), Nat.shiftLeft_eq]; omega

theorem unpackRow_toNat {x : IVec S16 32} {y : S16.Idx} {r c : ℕ} (hr : r < 224) (hc : c < 192) (hx : x y = BitVec.ofNat 32 (r * 256 + c)) :
    (unpackRow x y).toNat = r := by
  have hsh : unpackRow x y = (x y).sshiftRight' 8#32 := rfl
  rw [hsh, hx, BitVec.sshiftRight_eq']
  rw [BitVec.sshiftRight_eq_of_msb_false, BitVec.toNat_ushiftRight, BitVec.toNat_ofNat, Nat.shiftRight_eq_div_pow]
  · show (r * 256 + c) % 2 ^ 32 / 2 ^ 8 = r; omega
  · rw [BitVec.msb_eq_false_iff_two_mul_lt, BitVec.toNat_ofNat]; omega

theorem unpackCol_toNat {x : IVec S16 32} {y : S16.Idx} {r c : ℕ} (hr : r < 224) (hc : c < 192) (hx : x y = BitVec.ofNat 32 (r * 256 + c)) :
    (unpackCol x y).toNat = c := by
  show (x y &&& 255#32).toNat = c
  rw [hx, BitVec.toNat_and, BitVec.toNat_ofNat]
  show ((r * 256 + c) % 2 ^ 32) &&& (2 ^ 8 - 1) = c
  rw [Nat.and_two_pow_sub_one_eq_mod]; omega

end Cert.Proof.Unpool

end
-- ==== Proof.Step.lean ====
/- The rules for one access of a tile to its scratch, each memref held at stated contents: a load, a
   store and a scatter; and from them one step of the kernel's three loops, a vector of sixteen
   pooled elements at a time. Stated at any memrefs, so that both of the kernel's slabs use them. -/
module

public import proofs.«01_k».proof.Defs
public import Idealize.ShloMosaic.Lib.SparseCore.Quiescent
public import Idealize.ShloMosaic.Lib.StableHlo.Run
public import Idealize.ShloMosaic.Lib.Pipeline.Kit
public import Idealize.ShloMosaic.Lib.Tactic
public import Idealize.ShloMosaic.Lib.WordExact
public import Idealize.ShloMosaic.Lib.Batch
public import proofs.«01_k».proof.Proof.Gen.KernelIdeal
public import proofs.«01_k».proof.Proof.Gen.KernelIdeal.Skeleton
public import proofs.«01_k».proof.Proof.Pure

@[expose] public section

noncomputable section

namespace Cert.Proof.Unpool

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

/-! ## The resources -/

abbrev 𝒱₀ : Variants := Variants.none

abbrev UH : Type := URounds (GSem nD τ sig) ℕ
abbrev UU : Type := UH × Counters

local notation "𝕄" => MT nD τ sig (HIx 1) (Elt F) ℕ UU ℕ

variable [FloatOps F]

/-- A tile's thread, and a program of it run to a postcondition. -/
abbrev thrOf (d : Dev nD) (i : grid0.Coords) : Thread nD τ := V d ((i 0).castLE hcore0) ((i 1).castLE hsub0)

abbrev tileWp (d : Dev nD) (i : grid0.Coords) {α : Type}
    (p : Prog (TpuEff nD τ sig (Elt F) Λ₀ (.scVector ((i 0).castLE hcore0) ((i 1).castLE hsub0))) α) (Q : α → sProp 𝕄) : sProp 𝕄 :=
  wp (M := 𝕄) frame (wpE (defs₀ (F := F)) 𝒱₀ (thrOf d i) none) Set.univ p Q

section Access
variable {d : Dev nD} {i : grid0.Coords} {α : Type} {s : Shape} {e : EltTy} {cs : CoreSpace}

theorem owned_load {Q : α → sProp 𝕄} {m : Memref sig .scVector cs s e} {r : LoadRect s} {hl : m.view.LoadsAt r}
    {k : (r.shape.Idx → Elt F e) → Prog (TpuEff nD τ sig (Elt F) Λ₀ (.scVector ((i 0).castLE hcore0) ((i 1).castLE hsub0))) α}
    {q : PosShare TreeShare} {g : s.Idx → Elt F e} :
    (owns (thrOf d i) m q g : sProp 𝕄)
      ⊢ iprop((owns (thrOf d i) m q g -∗ tileWp d i (k fun x => g (r.idx x)) Q) -∗ tileWp d i (.op (.load m r hl) k) Q) := by
  unfold owns
  iintro ⟨%f, %hf, H⟩ Hk
  iapply (wp_load (defs := defs₀ (F := F)) 𝒱₀ (thrOf d i) none Set.univ (m := m) (r := r) (hl := hl) (k := k) (Q := Q)
    (S := m.view.set) (q := q) (f := f) (View.setOn_subset_set _ _)) $$ H
  iintro H
  have he : m.view.readAt (Elt F) r f = fun x => g (r.idx x) := by
    funext x; rw [View.readAt_apply, hf]
  rw [he]
  iapply Hk
  iexists f; isplitr
  · ipureintro; exact hf
  · iexact H

theorem owned_assume {Q : α → sProp 𝕄} {P : Prop} {dec : Decidable P}
    {k : PLift P → Prog (TpuEff nD τ sig (Elt F) Λ₀ (.scVector ((i 0).castLE hcore0) ((i 1).castLE hsub0))) α} (h : P) :
    tileWp d i (k ⟨h⟩) Q ⊢ tileWp d i (.op (.assume P dec) k) Q :=
  wp_assume (defs := defs₀ (F := F)) 𝒱₀ (thrOf d i) none Set.univ h

theorem owned_ret {Q : α → sProp 𝕄} {a : α} : Q a ⊢ tileWp d i (.ret a) Q := by
  unfold tileWp; rw [wp_ret]; iintro H; imodintro; iexact H

theorem owned_store {Q : α → sProp 𝕄} {m : Memref sig .scVector cs s e} {r : Rect s} {w : r.shape.Idx → Elt F e}
    {hx : (m.access r).Stores Finset.univ} {hm : (Finset.univ : Finset r.shape.Idx) = Finset.univ ∨ ∀ a, r.stride a = 1}
    {k : PUnit → Prog (TpuEff nD τ sig (Elt F) Λ₀ (.scVector ((i 0).castLE hcore0) ((i 1).castLE hsub0))) α}
    {g g' : s.Idx → Elt F e} (hin : ∀ x, g' (r.emb x) = w x) (hout : ∀ y, (∀ x, r.emb x ≠ y) → g' y = g y) :
    (owns (thrOf d i) m fullShare g : sProp 𝕄)
      ⊢ iprop((owns (thrOf d i) m fullShare g' -∗ tileWp d i (k ⟨⟩) Q) -∗ tileWp d i (.op (.store m r w Finset.univ hx hm) k) Q) := by
  unfold owns
  iintro ⟨%f, %hf, H⟩ Hk
  iapply (wp_store (defs := defs₀ (F := F)) 𝒱₀ (thrOf d i) none Set.univ (m := m) (r := r) (w := w) (Mk := Finset.univ) (hx := hx)
    (hm := hm) (k := k) (Q := Q) (S := m.view.set) (f := f)
    (by rw [View.setOn_univ, View.set_slice]; exact View.setOn_subset_set _ _)) $$ H
  iintro H
  iapply Hk
  iexists _; isplitr
  rotate_left
  · iexact H
  · ipureintro
    funext y
    by_cases hy : ∃ x, r.emb x = y
    · obtain ⟨x, rfl⟩ := hy
      rw [hin]; exact View.read_slice_write_emb _ _ _ (Finset.mem_univ x)
    · rw [hout y fun x hx => hy ⟨x, hx⟩, ← hf]
      refine View.read_slice_write_of_not_mem _ _ _ _ ?_
      rw [Finset.mem_map]; rintro ⟨x, -, hx⟩; exact hy ⟨x, hx⟩

theorem owned_scatter {Q : α → sProp 𝕄} {dd : Fin 1 → Nat} {m : Memref sig .scVector .vmem s e} {idxs : Fin s.rank → IVec ⟨1, dd⟩ 32} {v : Vec F ⟨1, dd⟩ e}
    {mask : IVec ⟨1, dd⟩ 1} {add : Bool} {h : ∀ a x, (idxs a x).toNat < s.size a} {hs : (m.access (.whole s)).Stores Finset.univ}
    {k : PUnit → Prog (TpuEff nD τ sig (Elt F) Λ₀ (.scVector ((i 0).castLE hcore0) ((i 1).castLE hsub0))) α}
    {g : s.Idx → Elt F e} :
    (owns (thrOf d i) m fullShare g : sProp 𝕄)
      ⊢ iprop((owns (thrOf d i) m fullShare (storeIdx g idxs v mask add h) -∗ tileWp d i (k ⟨⟩) Q)
        -∗ tileWp d i (SparseCore.vectorStoreIdx m idxs v mask add h hs >>= k) Q) := by
  unfold owns
  iintro ⟨%f, %hf, H⟩ Hk
  have hset : (m.access (.whole s)).set = m.view.set := View.set_slice_rectWhole m.view
  have hread : ∀ f, (m.access (.whole s)).read (Elt F) f = m.view.read (Elt F) f := by
    intro f; funext x
    rw [View.read_apply, View.read_apply]
    exact congrArg (fun y => m.view.read (Elt F) f y) (Rect.emb_whole_apply s x)
  iapply (SparseCore.wp_vectorStoreIdx (defs := defs₀ (F := F)) 𝒱₀ (thrOf d i) none Set.univ (base := m) (idxs := idxs) (v := v)
    (mask := mask) (add := add) (h := h) (hs := hs) (k := k) (Q := Q) (f := f)) $$ [H]
  · rw [hset]; iexact H
  iintro H
  iapply Hk
  iexists _; isplitr
  rotate_left
  · rw [hset]; iexact H
  · ipureintro
    rw [← hread, View.read_write_univ, hread, hf]

end Access

/-! ## One vector of a loop -/

section Chunk
variable {d : Dev nD} {i : grid0.Coords}

/-- The sixteen elements from element `n` of a row. -/
theorem idx_unit {o : Fin 1 → ℕ} {ho : ∀ a, o a + S16.size a ≤ S5376.size a} {n : ℕ} (hon : o = ![n])
    (y : (Rect.unit (s := S5376) o S16.size ho).shape.Idx) :
    ((Rect.unit (s := S5376) o S16.size ho).toLoadRect.idx y 0).val = n + (y 0).val := by
  subst hon
  show n + 1 * (y 0).val = _
  omega

theorem wp_chunk {α : Type} {Q : α → sProp 𝕄} {S : Memref sig .scVector .vmem S224x192 .f32} {I : Memref sig .scVector .vmem S5376 .i32}
    {X : Memref sig .scVector .vmem S5376 .f32} {o : Fin 1 → ℕ} {ho : ∀ a, o a + S16.size a ≤ S5376.size a}
    {hl1 : I.view.LoadsAt (Rect.unit (s := S5376) o S16.size ho).toLoadRect} {hl2 : X.view.LoadsAt (Rect.unit (s := S5376) o S16.size ho).toLoadRect}
    {rowp packp : IVec S16 32 → IVec S16 32} {col : IVec S16 32} {P : IVec S16 32 → Prop} {dec : ∀ x, Decidable (P x)}
    {hx : (I.access (Rect.unit (s := S5376) o S16.size ho)).Stores Finset.univ}
    {hm : (Finset.univ : Finset (Rect.unit (s := S5376) o S16.size ho).shape.Idx) = Finset.univ ∨ ∀ a, (Rect.unit (s := S5376) o S16.size ho).stride a = 1}
    {hs : (S.access (.whole S224x192)).Stores Finset.univ}
    (hP : ∀ x, P x = ∀ a y, ((![rowp x, col] : Fin 2 → IVec S16 32) a y).toNat < S224x192.size a)
    {k : (x : IVec S16 32) → Vec F S16 .f32 → PLift (P x) → PUnit → Prog (TpuEff nD τ sig (Elt F) Λ₀ (.scVector ((i 0).castLE hcore0) ((i 1).castLE hsub0))) α}
    {z : F .f32} {B : ℕ} {ix : ℕ → BitVec 32} {vl : ℕ → F .f32} {w c : ℕ} {v3 : IVec S16 32} {v165 wb : BitVec 32} {q : PosShare TreeShare}
    (hwf : Wf B ix) (hB : v165.toNat = B) (hBlt : B < 1000000) (hw : w < 28) (hwb : wb.toNat = w) (hc : c + 16 ≤ 192)
    (hon : o = ![192 * w + c])
    (hrow : ∀ x, rowp x = rowVec (baseVec v3 v165 wb) wb x) (hcol : col = colVec c) (hpack : ∀ x, packp x = packVec (rowp x) col) :
    iprop(owns (thrOf d i) S fullShare (slabAt z B ix vl (192 * w + c)) ∗ owns (thrOf d i) I fullShare (ibufAt B ix (192 * w + c))
        ∗ owns (thrOf d i) X q (fun x => vl (x 0).val))
      ⊢ iprop((iprop(owns (thrOf d i) S fullShare (slabAt z B ix vl (192 * w + (c + 16))) ∗ owns (thrOf d i) I fullShare (ibufAt B ix (192 * w + (c + 16)))
            ∗ owns (thrOf d i) X q (fun x => vl (x 0).val)) -∗ ∀ x v hp, tileWp d i (k x v hp ⟨⟩) Q)
        -∗ tileWp d i (.op (.load I (Rect.unit (s := S5376) o S16.size ho).toLoadRect hl1) fun (x : Vec F S16 .i32) =>
            .op (.load X (Rect.unit (s := S5376) o S16.size ho).toLoadRect hl2) fun (v : Vec F S16 .f32) =>
            .op (.assume (P x) (dec x)) fun hp =>
            .op (.load I (Rect.unit (s := S5376) o S16.size ho).toLoadRect hl1) fun (_ : Vec F S16 .i32) =>
            .op (.store I (Rect.unit (s := S5376) o S16.size ho) (packp x) Finset.univ hx hm) fun _ =>
            SparseCore.vectorStoreIdx S ![rowp x, col] v (fun _ => 1#1) false (cast (hP x) hp.down) hs >>= k x v hp) Q) := by
  iintro ⟨HS, HI, HX⟩ Hk
  have hn : ∀ y : (Rect.unit (s := S5376) o S16.size ho).shape.Idx,
      ((Rect.unit (s := S5376) o S16.size ho).toLoadRect.idx y 0).val = 192 * w + c + (y 0).val := fun y => idx_unit hon y
  have hld : (fun y => ibufAt B ix (192 * w + c) ((Rect.unit (s := S5376) o S16.size ho).toLoadRect.idx y))
      = fun y : S16.Idx => ix (192 * w + c + (y 0).val) := by
    funext y; unfold ibufAt; rw [hn, if_neg (by omega)]
  have hlv : (fun y => (fun x : S5376.Idx => vl (x 0).val) ((Rect.unit (s := S5376) o S16.size ho).toLoadRect.idx y))
      = fun y : S16.Idx => vl (192 * w + c + (y 0).val) := by
    funext y; exact congrArg vl (hn y)
  iapply (owned_load (d := d) (i := i) (m := I)) $$ HI
  iintro HI
  iapply (owned_load (d := d) (i := i) (m := X)) $$ HX
  iintro HX
  rw [hld, hlv]
  have hdiv : ∀ y : S16.Idx, (192 * w + c + (y 0).val) / 192 = w := fun y => by have := y0_lt y; omega
  have hmod : ∀ y : S16.Idx, (192 * w + c + (y 0).val) % 192 = c + (y 0).val := fun y => by have := y0_lt y; omega
  have hlt : ∀ y : S16.Idx, 192 * w + c + (y 0).val < 5376 := fun y => by have := y0_lt y; omega
  have hr : ∀ y : S16.Idx, (rowp (fun y : S16.Idx => ix (192 * w + c + (y 0).val)) y).toNat
      = rowOf B (192 * w + c + (y 0).val) (ix (192 * w + c + (y 0).val)).toNat := by
    intro y
    obtain ⟨a, b, cc, ha, hb, hcc, hx⟩ := hwf _ (hlt y)
    rw [hrow]
    exact rowVec_toNat hB hBlt (hwb.trans (hdiv y).symm) (hlt y) ha hb hcc hx
  have hrlt : ∀ y : S16.Idx, (rowp (fun y : S16.Idx => ix (192 * w + c + (y 0).val)) y).toNat < 224 := by
    intro y
    obtain ⟨a, b, cc, ha, hb, hcc, hx⟩ := hwf _ (hlt y)
    rw [hr]; exact rowOf_lt ha hb hcc (hlt y) hx
  have hcl : ∀ y : S16.Idx, (col y).toNat = c + (y 0).val := fun y => by rw [hcol]; exact colVec_toNat hc y
  have hp : P (fun y : S16.Idx => ix (192 * w + c + (y 0).val)) := by
    rw [hP]; intro a y
    revert a; refine forall_ax.2 ⟨hrlt y, ?_⟩
    have := hcl y; have := y0_lt y
    show (col y).toNat < 192; omega
  iapply (owned_assume (d := d) (i := i) hp)
  iapply (owned_load (d := d) (i := i) (m := I)) $$ HI
  iintro HI
  iapply (owned_store (d := d) (i := i) (m := I) (g' := ibufAt B ix (192 * w + (c + 16))) ?_ ?_) $$ HI
  · intro y
    rw [hpack]
    have hv : (((Rect.unit (s := S5376) o S16.size ho).emb y) 0).val = 192 * w + c + (y 0).val := hn y
    unfold ibufAt
    have := y0_lt y
    rw [if_pos (by rw [hv]; omega), hv]
    unfold packed; rw [hmod]; exact (packVec_eq (hr y) (hr y ▸ hrlt y) (hcl y) (by omega)).symm
  · intro y hy
    unfold ibufAt
    by_cases h1 : (y 0).val < 192 * w + c
    · rw [if_pos h1, if_pos (by omega)]
    · rw [if_neg h1, if_neg]
      intro h2
      refine hy (lane ((y 0).val - (192 * w + c)) (by omega)) ?_
      funext a; obtain rfl := Fin.eq_zero a
      apply Fin.ext
      refine (hn _).trans ?_
      show 192 * w + c + ((y 0).val - (192 * w + c)) = _
      omega
  iintro HI
  iapply (owned_scatter (d := d) (i := i) (m := S)) $$ HS
  iintro HS
  rw [slab_step z vl hwf hw hc _ _ _ hr hcl (fun _ => rfl)]
  ihave H := Hk $$ [HS HI HX]
  · isplitl [HS]; · iexact HS
    isplitl [HI]; · iexact HI
    iexact HX
  iapply H

/-- One vector of the clearing loop. -/
theorem wp_clear {α : Type} {Q : α → sProp 𝕄} {S : Memref sig .scVector .vmem S224x192 .f32} {I : Memref sig .scVector .vmem S5376 .i32}
    {o : Fin 1 → ℕ} {ho : ∀ a, o a + S16.size a ≤ S5376.size a}
    {hl1 : I.view.LoadsAt (Rect.unit (s := S5376) o S16.size ho).toLoadRect}
    {rowp colp : IVec S16 32 → IVec S16 32} {P : IVec S16 32 → Prop} {dec : ∀ x, Decidable (P x)}
    {hs : (S.access (.whole S224x192)).Stores Finset.univ} {v : Vec F S16 .f32}
    (hP : ∀ x, (∀ a y, ((![rowp x, colp x] : Fin 2 → IVec S16 32) a y).toNat < S224x192.size a) → P x)
    (hP' : ∀ x, P x → ∀ a y, ((![rowp x, colp x] : Fin 2 → IVec S16 32) a y).toNat < S224x192.size a)
    {k : (x : IVec S16 32) → PLift (P x) → PUnit → Prog (TpuEff nD τ sig (Elt F) Λ₀ (.scVector ((i 0).castLE hcore0) ((i 1).castLE hsub0))) α}
    {z : F .f32} {B : ℕ} {ix : ℕ → BitVec 32} {vl : ℕ → F .f32} {n : ℕ}
    (hwf : Wf B ix) (hn : n + 16 ≤ 5376) (hon : o = ![n]) (hrow : ∀ x, rowp x = unpackRow x) (hcol : ∀ x, colp x = unpackCol x)
    (hv : ∀ y, v y = z) :
    iprop(owns (thrOf d i) S fullShare (clearAt z B ix vl n) ∗ owns (thrOf d i) I fullShare (ibufAt B ix 5376))
      ⊢ iprop((iprop(owns (thrOf d i) S fullShare (clearAt z B ix vl (n + 16)) ∗ owns (thrOf d i) I fullShare (ibufAt B ix 5376))
          -∗ ∀ x hp, tileWp d i (k x hp ⟨⟩) Q)
        -∗ tileWp d i (.op (.load I (Rect.unit (s := S5376) o S16.size ho).toLoadRect hl1) fun (x : Vec F S16 .i32) =>
            .op (.assume (P x) (dec x)) fun hp =>
            SparseCore.vectorStoreIdx S ![rowp x, colp x] v (fun _ => 1#1) false (hP' x hp.down) hs >>= k x hp) Q) := by
  iintro ⟨HS, HI⟩ Hk
  have hnn : ∀ y : (Rect.unit (s := S5376) o S16.size ho).shape.Idx,
      ((Rect.unit (s := S5376) o S16.size ho).toLoadRect.idx y 0).val = n + (y 0).val := fun y => idx_unit hon y
  have hld : (fun y => ibufAt B ix 5376 ((Rect.unit (s := S5376) o S16.size ho).toLoadRect.idx y))
      = fun y : S16.Idx => packed B ix (n + (y 0).val) := by
    funext y; have := y0_lt y; unfold ibufAt; rw [hnn, if_pos (by omega)]
  iapply (owned_load (d := d) (i := i) (m := I)) $$ HI
  iintro HI
  rw [hld]
  have hlt : ∀ y : S16.Idx, n + (y 0).val < 5376 := fun y => by have := y0_lt y; omega
  have hrlt : ∀ y : S16.Idx, rowOf B (n + (y 0).val) (ix (n + (y 0).val)).toNat < 224 := by
    intro y
    obtain ⟨a, b, cc, ha, hb, hcc, hx⟩ := hwf _ (hlt y)
    exact rowOf_lt ha hb hcc (hlt y) hx
  have hr : ∀ y : S16.Idx, (rowp (fun y : S16.Idx => packed B ix (n + (y 0).val)) y).toNat
      = rowOf B (n + (y 0).val) (ix (n + (y 0).val)).toNat := by
    intro y; rw [hrow]; exact unpackRow_toNat (hrlt y) (Nat.mod_lt _ (by omega)) rfl
  have hcl : ∀ y : S16.Idx, (colp (fun y : S16.Idx => packed B ix (n + (y 0).val)) y).toNat = (n + (y 0).val) % 192 := by
    intro y; rw [hcol]; exact unpackCol_toNat (hrlt y) (Nat.mod_lt _ (by omega)) rfl
  have hp : P (fun y : S16.Idx => packed B ix (n + (y 0).val)) := by
    refine hP _ fun a y => ?_
    revert a; refine forall_ax.2 ⟨(hr y).trans_lt (hrlt y), (hcl y).trans_lt (Nat.mod_lt _ (by omega))⟩
  iapply (owned_assume (d := d) (i := i) hp)
  iapply (owned_scatter (d := d) (i := i) (m := S)) $$ HS
  iintro HS
  rw [clear_step z vl hwf hn _ _ _ hr hcl hv]
  ihave H := Hk $$ [HS HI]
  · isplitl [HS]; · iexact HS
    iexact HI
  iapply H

/-- One vector of the first clearing of a slab. -/
theorem wp_fill {α : Type} {Q : α → sProp 𝕄} {S : Memref sig .scVector .vmem S224x192 .f32}
    {row col : IVec S16 32} {h : ∀ a y, ((![row, col] : Fin 2 → IVec S16 32) a y).toNat < S224x192.size a}
    {hs : (S.access (.whole S224x192)).Stores Finset.univ} {v : Vec F S16 .f32}
    {k : PUnit → Prog (TpuEff nD τ sig (Elt F) Λ₀ (.scVector ((i 0).castLE hcore0) ((i 1).castLE hsub0))) α}
    {z : F .f32} {g : Vec F S224x192 .f32} {t c : ℕ} (hc : c + 16 ≤ 192)
    (hrow : ∀ y, (row y).toNat = t) (hcol : col = colVec c) (hv : ∀ y, v y = z) :
    (owns (thrOf d i) S fullShare (fillAt z g (192 * t + c)) : sProp 𝕄)
      ⊢ iprop((owns (thrOf d i) S fullShare (fillAt z g (192 * t + (c + 16))) -∗ tileWp d i (k ⟨⟩) Q)
        -∗ tileWp d i (SparseCore.vectorStoreIdx S ![row, col] v (fun _ => 1#1) false h hs >>= k) Q) := by
  iintro HS Hk
  iapply (owned_scatter (d := d) (i := i) (m := S)) $$ HS
  iintro HS
  rw [fill_step z g hc _ _ _ hrow (fun y => by rw [hcol]; exact colVec_toNat hc y) hv]
  iapply Hk
  iexact HS

end Chunk

end Cert.Proof.Unpool

end
-- ==== Proof.Loops.lean ====
/- One trip of each of the kernel's loops over a row: from what the slab and the index row hold
   before it to what they hold after it. -/
module

public import proofs.«01_k».proof.Proof.Step

@[expose] public section

noncomputable section

namespace Cert.Proof.Unpool

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

section Trips
variable (d : Dev nD) (i : grid0.Coords) (arg2 : Memref sig .scVector .hbm S448x5376 .f32) (harg2 : arg2.IsWhole)
  (arg3 : Memref sig .scVector .hbm S448x5376 .i32) (harg3 : arg3.IsWhole) (arg4 : Memref sig .scVector .hbm S2x16x56x56x192 .f32) (harg4 : arg4.IsWhole)
  (arg5 : Memref sig .scVector .vmem S224x192 .f32) (harg5 : arg5.IsWhole) (arg6 : Memref sig .scVector .vmem S224x192 .f32) (harg6 : arg6.IsWhole)
  (arg7 : Memref sig .scVector .vmem S5376 .i32) (harg7 : arg7.IsWhole) (arg8 : Memref sig .scVector .vmem S5376 .i32) (harg8 : arg8.IsWhole)
  (arg9 : Memref sig .scVector .vmem S5376 .f32) (harg9 : arg9.IsWhole) (arg10 arg11 arg12 arg13 : DmaSems sig S_)

theorem wb_toNat {t : ℕ} (ht : t < 224) : (Scalar.addi 0#32 (Scalar.muli (Scf.iv 0#32 1#32 t) 1#32)).toNat = t := by
  show (0#32 + (0#32 + BitVec.ofNat 32 t * 1#32) * 1#32).toNat = t
  simp only [BitVec.mul_one, BitVec.zero_add, BitVec.toNat_ofNat]; omega

set_option maxRecDepth 65536 in
set_option maxHeartbeats 400000 in
theorem t5_trip {z : F .f32} {B : ℕ} {ix : ℕ → BitVec 32} {vl : ℕ → F .f32} (hwf : Wf B ix) (hBlt : B < 1000000)
    {v1 v132 v140 v142 c112 v165 : BitVec 32} {v3 : IVec S16 32} (hB : v165.toNat = B) {q : PosShare TreeShare}
    (w : Fin k0_t5_loop.trips) (acc : Unit) :
    iprop(owns (thrOf d i) arg5 fullShare (slabAt z B ix vl (192 * w.val)) ∗ owns (thrOf d i) arg7 fullShare (ibufAt B ix (192 * w.val))
        ∗ owns (thrOf d i) arg9 q (fun x => vl (x 0).val))
      ⊢ tileWp d i (k0_t5_body (F := F) i arg2 harg2 arg3 harg3 arg4 harg4 arg5 harg5 arg6 harg6 arg7 harg7 arg8 harg8 arg9 harg9 arg10 arg11 arg12 arg13
          v1 v3 k0_pay100 k0_pay101 k0_pay102 k0_pay103 k0_pay104 k0_pay105 k0_pay106 k0_pay107 k0_pay108 k0_pay109 k0_pay110 k0_pay111
          v132 v140 v142 c112 v165 w acc)
        (fun _ => (iprop(owns (thrOf d i) arg5 fullShare (slabAt z B ix vl (192 * (w.val + 1))) ∗ owns (thrOf d i) arg7 fullShare (ibufAt B ix (192 * (w.val + 1)))
          ∗ owns (thrOf d i) arg9 q (fun x => vl (x 0).val)) : sProp 𝕄)) := by
  have hw : w.val < 28 := w.isLt
  unfold k0_t5_body
  simp only [k0_part11_eq_skeleton]; unfold k0_part11_skel
  simp only [k0_part2_eq_skeleton, k0_part3_eq_skeleton, k0_part4_eq_skeleton, k0_part5_eq_skeleton, k0_part6_eq_skeleton, k0_part7_eq_skeleton,
    k0_part8_eq_skeleton, k0_part9_eq_skeleton, k0_part10_eq_skeleton]
  unfold k0_part2_skel k0_part3_skel k0_part4_skel k0_part5_skel k0_part6_skel k0_part7_skel k0_part8_skel k0_part9_skel k0_part10_skel
  simp only [Prog.lift, Prog.bind_op, Prog.bind_ret, Prog.pure_eq_ret, Prog.bind_assoc]
  rw [show 192 * w.val = 192 * w.val + 0 from rfl]
  iintro H
  iterate 12
    iapply (wp_chunk (z := z) (vl := vl) (w := w.val) (v3 := v3) (q := q) (hP := ?_) hwf hB hBlt hw (wb_toNat (by omega)) ?_ ?_ ?_ ?_ ?_) $$ H
    · exact fun _ => rfl
    · omega
    · simp only [k0_off4_eq, k0_off5_eq, k0_off6_eq, k0_off7_eq, k0_off8_eq, k0_off9_eq, k0_off10_eq, k0_off11_eq, k0_off12_eq, k0_off13_eq,
        k0_off14_eq, k0_off15_eq, Nat.reduceAdd, Nat.add_zero]
    · exact fun _ => rfl
    · rfl
    · exact fun _ => rfl
    iintro H %x %v %hp
  iapply owned_ret
  iexact H

set_option maxRecDepth 65536 in
set_option maxHeartbeats 400000 in
theorem t7_trip {z : F .f32} {B : ℕ} {ix : ℕ → BitVec 32} {vl : ℕ → F .f32} (hwf : Wf B ix) (hBlt : B < 1000000)
    {v1 v218 v250 c56 v251 : BitVec 32} {v3 : IVec S16 32} (hB : v251.toNat = B) {q : PosShare TreeShare}
    (w : Fin k0_t7_loop.trips) (acc : Unit) :
    iprop(owns (thrOf d i) arg6 fullShare (slabAt z B ix vl (192 * w.val)) ∗ owns (thrOf d i) arg8 fullShare (ibufAt B ix (192 * w.val))
        ∗ owns (thrOf d i) arg9 q (fun x => vl (x 0).val))
      ⊢ tileWp d i (k0_t7_body (F := F) i arg2 harg2 arg3 harg3 arg4 harg4 arg5 harg5 arg6 harg6 arg7 harg7 arg8 harg8 arg9 harg9 arg10 arg11 arg12 arg13
          v1 v3 k0_pay100 k0_pay101 k0_pay102 k0_pay103 k0_pay104 k0_pay105 k0_pay106 k0_pay107 k0_pay108 k0_pay109 k0_pay110 k0_pay111
          v218 v250 c56 v251 w acc)
        (fun _ => (iprop(owns (thrOf d i) arg6 fullShare (slabAt z B ix vl (192 * (w.val + 1))) ∗ owns (thrOf d i) arg8 fullShare (ibufAt B ix (192 * (w.val + 1)))
          ∗ owns (thrOf d i) arg9 q (fun x => vl (x 0).val)) : sProp 𝕄)) := by
  have hw : w.val < 28 := w.isLt
  unfold k0_t7_body
  simp only [k0_part22_eq_skeleton]; unfold k0_part22_skel
  simp only [k0_part13_eq_skeleton, k0_part14_eq_skeleton, k0_part15_eq_skeleton, k0_part16_eq_skeleton, k0_part17_eq_skeleton, k0_part18_eq_skeleton,
    k0_part19_eq_skeleton, k0_part20_eq_skeleton, k0_part21_eq_skeleton]
  unfold k0_part13_skel k0_part14_skel k0_part15_skel k0_part16_skel k0_part17_skel k0_part18_skel k0_part19_skel k0_part20_skel k0_part21_skel
  simp only [Prog.lift, Prog.bind_op, Prog.bind_ret, Prog.pure_eq_ret, Prog.bind_assoc]
  rw [show 192 * w.val = 192 * w.val + 0 from rfl]
  iintro H
  iterate 12
    iapply (wp_chunk (z := z) (vl := vl) (w := w.val) (v3 := v3) (q := q) (hP := ?_) hwf hB hBlt hw (wb_toNat (by omega)) ?_ ?_ ?_ ?_ ?_) $$ H
    · exact fun _ => rfl
    · omega
    · simp only [k0_off19_eq, k0_off20_eq, k0_off21_eq, k0_off22_eq, k0_off23_eq, k0_off24_eq, k0_off25_eq, k0_off26_eq, k0_off27_eq, k0_off28_eq,
        k0_off29_eq, k0_off30_eq, Nat.reduceAdd, Nat.add_zero]
    · exact fun _ => rfl
    · rfl
    · exact fun _ => rfl
    iintro H %x %v %hp
  iapply owned_ret
  iexact H

theorem k0_pay99_apply (y : S16.Idx) : k0_pay99 (F := F) y = Scalar.ofBits .f32 0x00000000#32 := rfl

/-- What the kernel clears a slab with. -/
abbrev zero : F .f32 := Scalar.ofBits .f32 0x00000000#32

set_option maxRecDepth 65536 in
theorem t4_trip {B : ℕ} {ix : ℕ → BitVec 32} {vl : ℕ → F .f32} (hwf : Wf B ix)
    {v1 c0 c1 : BitVec 32} {t3 : Fin k0_t3_loop.trips} {h1 : k0_cond1 t3 = 1#1} (t : Fin k0_t4_loop.trips) (acc : Unit) :
    iprop(owns (thrOf d i) arg5 fullShare (clearAt zero B ix vl (16 * t.val)) ∗ owns (thrOf d i) arg7 fullShare (ibufAt B ix 5376))
      ⊢ tileWp d i (k0_t4_body (F := F) i arg2 harg2 arg3 harg3 arg4 harg4 arg5 harg5 arg6 harg6 arg7 harg7 arg8 harg8 arg9 harg9 arg10 arg11 arg12 arg13
          v1 k0_pay99 c0 c1 t3 h1 t acc)
        (fun _ => (iprop(owns (thrOf d i) arg5 fullShare (clearAt zero B ix vl (16 * (t.val + 1))) ∗ owns (thrOf d i) arg7 fullShare (ibufAt B ix 5376))
          : sProp 𝕄)) := by
  have ht : t.val < 336 := t.isLt
  unfold k0_t4_body
  simp only [Prog.lift, Prog.bind_op, Prog.bind_ret, Prog.pure_eq_ret, Prog.bind_assoc]
  iintro H
  iapply (wp_clear (z := zero) (vl := vl) (n := 16 * t.val) (hP := ?_) (hP' := ?_) hwf (by omega) ?_ ?_ ?_ ?_) $$ H
  · exact fun x hx _ => hx
  · exact fun x hx => hx h1
  · exact k0_off3_eq t
  · exact fun _ => rfl
  · exact fun _ => rfl
  · exact k0_pay99_apply
  iintro H %x %hp
  iapply owned_ret
  iexact H

set_option maxRecDepth 65536 in
theorem t6_trip {B : ℕ} {ix : ℕ → BitVec 32} {vl : ℕ → F .f32} (hwf : Wf B ix)
    {v1 c0 : BitVec 32} {t3 : Fin k0_t3_loop.trips} {h1 : k0_cond2 t3 = 1#1} (t : Fin k0_t6_loop.trips) (acc : Unit) :
    iprop(owns (thrOf d i) arg6 fullShare (clearAt zero B ix vl (16 * t.val)) ∗ owns (thrOf d i) arg8 fullShare (ibufAt B ix 5376))
      ⊢ tileWp d i (k0_t6_body (F := F) i arg2 harg2 arg3 harg3 arg4 harg4 arg5 harg5 arg6 harg6 arg7 harg7 arg8 harg8 arg9 harg9 arg10 arg11 arg12 arg13
          v1 k0_pay99 t3 c0 h1 t acc)
        (fun _ => (iprop(owns (thrOf d i) arg6 fullShare (clearAt zero B ix vl (16 * (t.val + 1))) ∗ owns (thrOf d i) arg8 fullShare (ibufAt B ix 5376))
          : sProp 𝕄)) := by
  have ht : t.val < 336 := t.isLt
  unfold k0_t6_body
  simp only [Prog.lift, Prog.bind_op, Prog.bind_ret, Prog.pure_eq_ret, Prog.bind_assoc]
  iintro H
  iapply (wp_clear (z := zero) (vl := vl) (n := 16 * t.val) (hP := ?_) (hP' := ?_) hwf (by omega) ?_ ?_ ?_ ?_) $$ H
  · exact fun x hx _ => hx
  · exact fun x hx => hx h1
  · exact k0_off18_eq t
  · exact fun _ => rfl
  · exact fun _ => rfl
  · exact k0_pay99_apply
  iintro H %x %hp
  iapply owned_ret
  iexact H

theorem fillRow_toNat {t : ℕ} (ht : t < 224) (y : S16.Idx) :
    (addi (muli (iota .scVector S16 32 [0] iota_S16_d0_w32_scVector) (broadcast S16 (0#32 : BitVec 32)))
      (broadcast S16 (Scalar.addi 0#32 (Scalar.muli (Scf.iv 0#32 1#32 t) 1#32))) y).toNat = t := by
  show (_ * 0#32 + (Scalar.addi 0#32 (Scalar.muli (Scf.iv 0#32 1#32 t) 1#32)) : BitVec 32).toNat = t
  rw [BitVec.mul_zero, BitVec.zero_add, wb_toNat ht]

set_option maxRecDepth 65536 in
theorem t1_trip {g : Vec F S224x192 .f32} (t : Fin k0_t1_loop.trips) (acc : Unit) :
    (owns (thrOf d i) arg5 fullShare (fillAt zero g (192 * t.val)) : sProp 𝕄)
      ⊢ tileWp d i (k0_t1_body (F := F) i arg2 harg2 arg3 harg3 arg4 harg4 arg5 harg5 arg6 harg6 arg7 harg7 arg8 harg8 arg9 harg9 arg10 arg11 arg12 arg13
          k0_pay100 k0_pay101 k0_pay102 k0_pay103 k0_pay104 k0_pay105 k0_pay106 k0_pay107 k0_pay108 k0_pay109 k0_pay110 k0_pay111 t acc)
        (fun _ => (owns (thrOf d i) arg5 fullShare (fillAt zero g (192 * (t.val + 1))) : sProp 𝕄)) := by
  have ht : t.val < 224 := t.isLt
  have hrow : ∀ y, (k0_pay112 t y).toNat = t.val := fun y => fillRow_toNat ht y
  have hin : ∀ {c : ℕ}, c + 16 ≤ 192 → ∀ a y, ((![k0_pay112 t, colVec c] : Fin 2 → IVec S16 32) a y).toNat < S224x192.size a := by
    intro c hc a y; revert a
    exact forall_ax.2 ⟨(hrow y).trans_lt ht, (colVec_toNat hc y).trans_lt (by have := y0_lt y; show c + (y 0).val < 192; omega)⟩
  have hp : k0_chk1 k0_pay100 k0_pay101 k0_pay102 k0_pay103 k0_pay104 k0_pay105 k0_pay106 k0_pay107 k0_pay108 k0_pay109 k0_pay110
      k0_pay111 (k0_pay112 t) :=
    ⟨hin (c := 0) (by omega), hin (c := 16) (by omega), hin (c := 32) (by omega), hin (c := 48) (by omega), hin (c := 64) (by omega),
      hin (c := 80) (by omega), hin (c := 96) (by omega), hin (c := 112) (by omega), hin (c := 128) (by omega), hin (c := 144) (by omega),
      hin (c := 160) (by omega), hin (c := 176) (by omega)⟩
  unfold k0_t1_body
  simp only [Prog.lift, Prog.bind_op, Prog.bind_ret, Prog.pure_eq_ret, Prog.bind_assoc]
  rw [show 192 * t.val = 192 * t.val + 0 from rfl]
  iintro H
  iapply (owned_assume (d := d) (i := i) hp)
  iterate 12
    iapply (wp_fill (z := zero) (t := t.val) ?_ hrow ?_ k0_pay99_apply) $$ H
    · omega
    · rfl
    iintro H
  iapply owned_ret
  iexact H

set_option maxRecDepth 65536 in
theorem t2_trip {g : Vec F S224x192 .f32} (t : Fin k0_t2_loop.trips) (acc : Unit) :
    (owns (thrOf d i) arg6 fullShare (fillAt zero g (192 * t.val)) : sProp 𝕄)
      ⊢ tileWp d i (k0_t2_body (F := F) i arg2 harg2 arg3 harg3 arg4 harg4 arg5 harg5 arg6 harg6 arg7 harg7 arg8 harg8 arg9 harg9 arg10 arg11 arg12 arg13
          k0_pay100 k0_pay101 k0_pay102 k0_pay103 k0_pay104 k0_pay105 k0_pay106 k0_pay107 k0_pay108 k0_pay109 k0_pay110 k0_pay111 t acc)
        (fun _ => (owns (thrOf d i) arg6 fullShare (fillAt zero g (192 * (t.val + 1))) : sProp 𝕄)) := by
  have ht : t.val < 224 := t.isLt
  have hrow : ∀ y, (k0_pay113 t y).toNat = t.val := fun y => fillRow_toNat ht y
  have hin : ∀ {c : ℕ}, c + 16 ≤ 192 → ∀ a y, ((![k0_pay113 t, colVec c] : Fin 2 → IVec S16 32) a y).toNat < S224x192.size a := by
    intro c hc a y; revert a
    exact forall_ax.2 ⟨(hrow y).trans_lt ht, (colVec_toNat hc y).trans_lt (by have := y0_lt y; show c + (y 0).val < 192; omega)⟩
  have hp : k0_chk2 k0_pay100 k0_pay101 k0_pay102 k0_pay103 k0_pay104 k0_pay105 k0_pay106 k0_pay107 k0_pay108 k0_pay109 k0_pay110
      k0_pay111 (k0_pay113 t) :=
    ⟨hin (c := 0) (by omega), hin (c := 16) (by omega), hin (c := 32) (by omega), hin (c := 48) (by omega), hin (c := 64) (by omega),
      hin (c := 80) (by omega), hin (c := 96) (by omega), hin (c := 112) (by omega), hin (c := 128) (by omega), hin (c := 144) (by omega),
      hin (c := 160) (by omega), hin (c := 176) (by omega)⟩
  unfold k0_t2_body
  simp only [Prog.lift, Prog.bind_op, Prog.bind_ret, Prog.pure_eq_ret, Prog.bind_assoc]
  rw [show 192 * t.val = 192 * t.val + 0 from rfl]
  iintro H
  iapply (owned_assume (d := d) (i := i) hp)
  iterate 12
    iapply (wp_fill (z := zero) (t := t.val) ?_ hrow ?_ k0_pay99_apply) $$ H
    · omega
    · rfl
    iintro H
  iapply owned_ret
  iexact H

end Trips

end Cert.Proof.Unpool

end
-- ==== Proof.Copy.lean ====
/- The rules for a tile's copies, each memref held at stated contents: a row of an operand fetched into
   a scratch buffer, a slab cut into the four windows that leave it, one window's copy into its block
   of the result as one of a batch of four on a semaphore, and the waits for them. -/
module

public import proofs.«01_k».proof.Proof.Loops
public import Idealize.ShloMosaic.Lib.Pointwise.Index

@[expose] public section

noncomputable section

namespace Cert.Proof.Unpool

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers
open Idealize.ShloMosaic.Tactic

variable {F : FTy → Type}

local notation "𝕄" => MT nD τ sig (HIx 1) (Elt F) ℕ UU ℕ

variable [FloatOps F]

/-- The transfers' counters among the kernel's resources. -/
abbrev EC : UEmb Counters (MT nD τ sig (HIx 1) (Elt F) ℕ UU ℕ) := countersEmb (U := UU)

/-- What a tile owes, its waits so far beyond those it began with all at the index of its own copies. -/
def owed (d : Dev nD) (i : grid0.Coords) (O : CellTallies nD τ sig (HIx 1)) (W : Waits sig (HIx 1)) : sProp 𝕄 :=
  iprop(∃ W', ⌜∀ p ∈ W', p ∈ W ∨ p.2 = none⌝ ∗ owes (thrOf d i) O W')

section Rows
variable {d : Dev nD} {i : grid0.Coords} {α : Type} {e : EltTy}

/-- A row of an operand, as the kernel slices it. -/
abbrev rowOp (M : Memref sig .scVector .hbm S448x5376 e) (off : Fin 2 → ℕ) (hoff : ∀ a, off a + S1x5376.size a ≤ S448x5376.size a) :
    Memref sig .scVector .hbm S5376 e :=
  (M.slice (Rect.unit (s := S448x5376) off S1x5376.size hoff) (fun _ => rfl)).squeeze S5376 squeezes_S1x5376_S5376

/-- What a row read off the operand's contents is, at a row number. -/
def rowAt (X : S448x5376.Idx → Elt F e) (r : ℕ) (n : ℕ) : Elt F e :=
  X (ix2 ⟨r % 448, Nat.mod_lt _ (by decide)⟩ ⟨n % 5376, Nat.mod_lt _ (by decide)⟩)

theorem unsqueeze_row (x : S5376.Idx) :
    Shape.reshapeEquiv squeezes_S1x5376_S5376.numel_eq x = (ix2 (⟨0, Nat.one_pos⟩ : Fin 1) (x 0) : S1x5376.Idx) :=
  Shape.reshapeEquiv_eq_of_rowMajor _ (by
    rw [Shape.rowMajor_val_two, Shape.rowMajor_val_one]
    show 0 * 5376 + (x 0).val = (x 0).val
    omega)

theorem rowOp_read (M : Memref sig .scVector .hbm S448x5376 e) {off : Fin 2 → ℕ}
    {hoff : ∀ a, off a + S1x5376.size a ≤ S448x5376.size a} {r : ℕ} (hr : off = ![r, 0]) (f : M.view.ty.Contents (Elt F)) :
    (rowOp M off hoff).view.read (Elt F) f = fun x => rowAt (M.view.read (Elt F) f) r (x 0).val := by
  subst hr
  funext x
  show M.view.read (Elt F) f ((Rect.unit (s := S448x5376) ![r, 0] S1x5376.size hoff).emb (Shape.reshapeEquiv squeezes_S1x5376_S5376.numel_eq x)) = _
  unfold rowAt
  congr 1
  rw [unsqueeze_row]
  have h0 : r + 1 ≤ 448 := hoff 0
  have h1 : (x 0).val < 5376 := (x 0).isLt
  funext a
  apply Fin.ext
  rw [Rect.emb_apply]
  match a with
  | 0 =>
    show r + 1 * 0 = r % 448
    rw [Nat.mod_eq_of_lt (by omega)]; omega
  | 1 =>
    show 0 + 1 * (x 0).val = (x 0).val % 5376
    rw [Nat.mod_eq_of_lt h1]; omega

theorem rowOp_set (M : Memref sig .scVector .hbm S448x5376 e) (off : Fin 2 → ℕ)
    (hoff : ∀ a, off a + S1x5376.size a ≤ S448x5376.size a) : (rowOp M off hoff).view.set ⊆ M.view.set := by
  show ((M.view.slice (Rect.unit (s := S448x5376) off S1x5376.size hoff)).reshape S5376 squeezes_S1x5376_S5376.numel_eq).set ⊆ _
  rw [View.set_reshape]
  exact View.set_slice_subset _ _

/-- A row fetched: the copy in flight brings the buffer at the row's contents and the row back, which
    with the rest of the operand makes the operand as it was. -/
theorem wp_fetch {Q : α → sProp 𝕄} {M : Memref sig .scVector .hbm S448x5376 e} {off : Fin 2 → ℕ}
    {hoff : ∀ a, off a + S1x5376.size a ≤ S448x5376.size a} {r : ℕ} (hr : off = ![r, 0])
    {dst : Memref sig .scVector .vmem S5376 e} {sm : DmaSem sig} {hsrc : (rowOp M off hoff).view.WordExact}
    {hdst : dst.view.WordExact} {hsem : DmaTarget.Typed (nD := nD) (τ := τ) (p := (thrOf d i).2) .hbm (.dma sm) (.here dst)}
    {k : PUnit → Prog (TpuEff nD τ sig (Elt F) Λ₀ (.scVector ((i 0).castLE hcore0) ((i 1).castLE hsub0))) α}
    {q : PosShare TreeShare} {X : S448x5376.Idx → Elt F e} {Y : S5376.Idx → Elt F e} :
    (iprop(owns (thrOf d i) M q X ∗ owns (thrOf d i) dst fullShare Y ∗ semVal (thrOf d i, .dma sm) 0) : sProp 𝕄)
      ⊢ iprop((∀ f : Buf (Elt F) (M.view.loc (thrOf d i)),
            iprop(Flight (EC (F := F)) (thrOf d i) (.dma sm) none dst.view.dmaCredit
                iprop(owns (thrOf d i) dst fullShare (fun x => rowAt X r (x 0).val)
                  ∗ ((rowOp M off hoff).view.loc (thrOf d i) ↦[(rowOp M off hoff).view.set]{q} f))
              ∗ (((rowOp M off hoff).view.loc (thrOf d i) ↦[(rowOp M off hoff).view.set]{q} f) -∗ owns (thrOf d i) M q X))
            -∗ tileWp d i (k ⟨⟩) Q)
          -∗ tileWp d i (.op (.enqueueDma (rowOp M off hoff) (.here dst) (.dma sm) hsrc hdst hsem) k) Q) := by
  unfold owns
  iintro ⟨⟨%f, %hf, HM⟩, ⟨%g, %hg, HD⟩, Hv⟩ Hk
  ihave HM' := (pointsTo_split_subset (rowOp_set M off hoff)).1 $$ HM
  icases HM' with ⟨Hrow, Hrest⟩
  iapply (wp_dmaLocal (defs := defs₀ (F := F)) (EC (F := F)) 𝒱₀ (thrOf d i) none (src := rowOp M off hoff) (dst := dst) (sm := .dma sm)
    (none : HIx 1) dst.view.dmaCredit rfl (View.dmaCredit_pos _ (by decide)) (Finset.Subset.refl _)) $$ [Hrow HD Hv]
  · isplitl [Hrow]; · iexact Hrow
    isplitl [HD]; · iexact HD
    iexact Hv
  iintro HF
  iapply Hk
  isplitl [HF]
  · iapply (Flight_mono (EC (F := F)) (thrOf d i) ?_) $$ HF
    iintro ⟨HD, Hrow⟩
    isplitl [HD]
    · iexists _; isplitr
      rotate_left
      · iexact HD
      · ipureintro
        rw [View.read_write_univ]
        show (rowOp M off hoff).view.read (Elt F) f = _
        rw [rowOp_read M hr, hf]
    · iexact Hrow
  · iintro Hrow
    iexists f; isplitr
    · ipureintro; exact hf
    · iapply (pointsTo_split_subset (rowOp_set M off hoff)).2
      isplitl [Hrow]; · iexact Hrow
      iexact Hrest

/-- The wait for a copy that is alone on its semaphore. -/
theorem wp_landed {Q : α → sProp 𝕄} {sp sp' : Space} {s s' : Shape} {e' : EltTy} {κ : Kind} {sem : DmaSem sig} {srcw : Memref sig .scVector sp' s' e'}
    {dstw : Memref sig κ sp s e} {hsrc : srcw.view.WordExact} {hdst : dstw.view.WordExact}
    {k : PUnit → Prog (TpuEff nD τ sig (Elt F) Λ₀ (.scVector ((i 0).castLE hcore0) ((i 1).castLE hsub0))) α}
    {N : ℕ} (hN : dstw.view.dmaCredit = N) {D : sProp 𝕄} {O : CellTallies nD τ sig (HIx 1)} {W : Waits sig (HIx 1)} :
    (iprop(MayWaits (thrOf d i) none O ∗ Flight (EC (F := F)) (thrOf d i) (.dma sem) none N D ∗ owed d i O W) : sProp 𝕄)
      ⊢ iprop((iprop(D ∗ semVal (thrOf d i, .dma sem) 0 ∗ owed d i O W) -∗ tileWp d i (k ⟨⟩) Q)
          -∗ tileWp d i (.op (.waitDma2 sem srcw dstw hsrc hdst) k) Q) := by
  unfold owed
  iintro ⟨Hmw, HF, %W', %hW', HO⟩ Hk
  iapply (wp_waitLocalO (defs := defs₀ (F := F)) (EC (F := F)) 𝒱₀ (thrOf d i) none (none : HIx 1) hN) $$ [Hmw HF HO]
  · isplitl [HF]; · iexact HF
    isplitl [HO]; · iexact HO
    iapply (MayWaits.elim (SemLoc.dma sem)); iexact Hmw
  iintro ⟨HD, Hv, HO⟩
  iapply Hk
  isplitl [HD]; · iexact HD
  isplitl [Hv]; · iexact Hv
  iexists _; isplitr
  rotate_left
  · iexact HO
  · ipureintro; intro p hp
    rcases Finset.mem_insert.mp hp with rfl | hp
    · exact .inr rfl
    · exact hW' p hp

end Rows

section Windows
variable {d : Dev nD} {i : grid0.Coords} {α : Type}

/-- The result's one copy on a semaphore brings it this much. -/
abbrev outCredit (R : Memref sig .scVector .hbm S2x16x56x56x192 .f32) : ℕ := sig.dmaCredit .scVector (Kind.scVector.table .hbm) R.view.ref.idx S56x192 .f32

/-- What one window's copy delivers: the block at the window's contents, and the window back. -/
def sent (d : Dev nD) (i : grid0.Coords) (blk : Fin 4 → Memref sig .scVector .hbm S56x192 .f32)
    (win : Fin 4 → Memref sig .scVector .vmem S56x192 .f32) (Y : Fin 4 → S56x192.Idx → F .f32) (j : Fin 4) : sProp 𝕄 :=
  iprop(owns (thrOf d i) (blk j) fullShare (Y j) ∗ owns (thrOf d i) (win j) fullShare (Y j))

instance sent_storable (d : Dev nD) (i : grid0.Coords) (blk : Fin 4 → Memref sig .scVector .hbm S56x192 .f32)
    (win : Fin 4 → Memref sig .scVector .vmem S56x192 .f32) (Y : Fin 4 → S56x192.Idx → F .f32) (j : Fin 4) :
    Storable (upEmb : UEmb _ 𝕄) (sent (F := F) d i blk win Y j) := by unfold sent; infer_instance

/-- One of the four copies of a batch issued. -/
theorem wp_send {Q : α → sProp 𝕄} {blk : Fin 4 → Memref sig .scVector .hbm S56x192 .f32}
    {win : Fin 4 → Memref sig .scVector .vmem S56x192 .f32} {Y : Fin 4 → S56x192.Idx → F .f32} {j : ℕ} (hj : j < 4)
    {src : Memref sig .scVector .vmem S56x192 .f32} {dst : Memref sig .scVector .hbm S56x192 .f32}
    (hs : src = win ⟨j, hj⟩) (hd : dst = blk ⟨j, hj⟩) {sm : DmaSem sig}
    {hsrc : src.view.WordExact} {hdst : dst.view.WordExact} {hsem : DmaTarget.Typed (nD := nD) (τ := τ) (p := (thrOf d i).2) .vmem (.dma sm) (.here dst)}
    {k : PUnit → Prog (TpuEff nD τ sig (Elt F) Λ₀ (.scVector ((i 0).castLE hcore0) ((i 1).castLE hsub0))) α}
    {N : ℕ} (hN : dst.view.dmaCredit = N) {Z : S56x192.Idx → F .f32} :
    (iprop(owns (thrOf d i) (win ⟨j, hj⟩) fullShare (Y ⟨j, hj⟩) ∗ owns (thrOf d i) (blk ⟨j, hj⟩) fullShare Z
        ∗ Batch (EC (F := F)) (thrOf d i) (.dma sm) none N (sent (F := F) d i blk win Y) j 0) : sProp 𝕄)
      ⊢ iprop((Batch (EC (F := F)) (thrOf d i) (.dma sm) none N (sent (F := F) d i blk win Y) (j + 1) 0 -∗ tileWp d i (k ⟨⟩) Q)
          -∗ tileWp d i (.op (.enqueueDma src (.here dst) (.dma sm) hsrc hdst hsem) k) Q) := by
  subst hs hd
  iintro ⟨Hs, Hd, HB⟩ Hk
  ihave Hs' := (Entails.of_eq (by unfold owns; rfl)) $$ Hs
  ihave Hd' := (Entails.of_eq (by unfold owns; rfl)) $$ Hd
  icases Hs' with ⟨%f, %hf, Hs⟩
  icases Hd' with ⟨%g, %hg, Hd⟩
  iapply (wp_dmaBatch (defs := defs₀ (F := F)) (EC (F := F)) 𝒱₀ (thrOf d i) none (src := win ⟨j, hj⟩) (dst := blk ⟨j, hj⟩) (sm := .dma sm) (fs := f) (fd := g)
    (D := sent (F := F) d i blk win Y) (none : HIx 1) N hN (Finset.Subset.refl _) hj (Nat.zero_le _) ?_) $$ [Hs Hd HB]
  · unfold sent owns
    iintro ⟨HD, HS⟩
    isplitl [HD]
    · iexists _; isplitr
      rotate_left
      · iexact HD
      · ipureintro
        rw [View.read_write_univ]
        show (win ⟨j, hj⟩).view.read (Elt F) f = _
        exact hf
    · iexists f; isplitr
      · ipureintro; exact hf
      · iexact HS
  · isplitl [Hs]; · iexact Hs
    isplitl [Hd]; · iexact Hd
    iexact HB
  iexact Hk

/-- A wait of a batch of four that is not its last. -/
theorem wp_await {Q : α → sProp 𝕄} {sp sp' : Space} {s s' : Shape} {e e' : EltTy} {κ : Kind} {sem : DmaSem sig} {srcw : Memref sig .scVector sp' s' e'}
    {dstw : Memref sig κ sp s e} {hsrc : srcw.view.WordExact} {hdst : dstw.view.WordExact}
    {k : PUnit → Prog (TpuEff nD τ sig (Elt F) Λ₀ (.scVector ((i 0).castLE hcore0) ((i 1).castLE hsub0))) α}
    {N : ℕ} (hN : dstw.view.dmaCredit = N) (hN0 : 0 < N) {D : Fin 4 → sProp 𝕄} {u : ℕ} (hu : u < 3)
    {O : CellTallies nD τ sig (HIx 1)} {W : Waits sig (HIx 1)} :
    (iprop(MayWaits (thrOf d i) none O ∗ Batch (EC (F := F)) (thrOf d i) (.dma sem) none N D 4 (u * N) ∗ owed d i O W) : sProp 𝕄)
      ⊢ iprop((iprop(Batch (EC (F := F)) (thrOf d i) (.dma sem) none N D 4 ((u + 1) * N) ∗ owed d i O W) -∗ tileWp d i (k ⟨⟩) Q)
          -∗ tileWp d i (.op (.waitDma2 sem srcw dstw hsrc hdst) k) Q) := by
  unfold owed
  iintro ⟨Hmw, HB, %W', %hW', HO⟩ Hk
  iapply (wp_waitBatchO (defs := defs₀ (F := F)) (EC (F := F)) 𝒱₀ (thrOf d i) none (none : HIx 1) hN (D := D) (u := u * N) (by nlinarith)) $$ [Hmw HB HO]
  · isplitl [HB]; · iexact HB
    isplitl [HO]; · iexact HO
    iapply (MayWaits.elim (SemLoc.dma sem)); iexact Hmw
  iintro ⟨HB, HO⟩
  iapply Hk
  isplitl [HB]; · rw [Nat.add_one_mul]; iexact HB
  iexists _; isplitr
  rotate_left
  · iexact HO
  · ipureintro; intro p hp
    rcases Finset.mem_insert.mp hp with rfl | hp
    · exact .inr rfl
    · exact hW' p hp

/-- The last wait of a batch of four: everything it delivers. -/
theorem wp_awaitLast {Q : α → sProp 𝕄} {sp sp' : Space} {s s' : Shape} {e e' : EltTy} {κ : Kind} {sem : DmaSem sig} {srcw : Memref sig .scVector sp' s' e'}
    {dstw : Memref sig κ sp s e} {hsrc : srcw.view.WordExact} {hdst : dstw.view.WordExact}
    {k : PUnit → Prog (TpuEff nD τ sig (Elt F) Λ₀ (.scVector ((i 0).castLE hcore0) ((i 1).castLE hsub0))) α}
    {N : ℕ} (hN : dstw.view.dmaCredit = N) (hN0 : 0 < N) {D : Fin 4 → sProp 𝕄}
    {O : CellTallies nD τ sig (HIx 1)} {W : Waits sig (HIx 1)} :
    (iprop(MayWaits (thrOf d i) none O ∗ Batch (EC (F := F)) (thrOf d i) (.dma sem) none N D 4 (3 * N) ∗ owed d i O W) : sProp 𝕄)
      ⊢ iprop((iprop(bigSep Finset.univ D ∗ semVal (thrOf d i, .dma sem) 0 ∗ owed d i O W) -∗ tileWp d i (k ⟨⟩) Q)
          -∗ tileWp d i (.op (.waitDma2 sem srcw dstw hsrc hdst) k) Q) := by
  unfold owed
  iintro ⟨Hmw, HB, %W', %hW', HO⟩ Hk
  iapply (wp_waitBatchLastO (defs := defs₀ (F := F)) (EC (F := F)) 𝒱₀ (thrOf d i) none (none : HIx 1) hN hN0 (D := D) (u := 3 * N) (by omega)) $$ [Hmw HB HO]
  · isplitl [HB]; · iexact HB
    isplitl [HO]; · iexact HO
    iapply (MayWaits.elim (SemLoc.dma sem)); iexact Hmw
  iintro ⟨HD, Hv, HO⟩
  iapply Hk
  isplitl [HD]; · iexact HD
  isplitl [Hv]; · iexact Hv
  iexists _; isplitr
  rotate_left
  · iexact HO
  · ipureintro; intro p hp
    rcases Finset.mem_insert.mp hp with rfl | hp
    · exact .inr rfl
    · exact hW' p hp

/-- The four windows of a slab. -/
theorem win_inb (j : Fin 4) : ∀ a, (![56 * j.val, 0] : Fin 2 → ℕ) a + S56x192.size a ≤ S224x192.size a := by
  have := j.isLt
  intro a
  match a with
  | 0 => show 56 * j.val + 56 ≤ 224; omega
  | 1 => show 0 + 192 ≤ 192; omega

abbrev winRect (j : Fin 4) : Rect S224x192 := Rect.unit (s := S224x192) ![56 * j.val, 0] S56x192.size (win_inb j)

abbrev winOf (A : Memref sig .scVector .vmem S224x192 .f32) (j : Fin 4) : Memref sig .scVector .vmem S56x192 .f32 :=
  A.slice (winRect j) (fun _ => rfl)

theorem mem_winRect (j : Fin 4) (y : S224x192.Idx) : y ∈ (winRect j).set ↔ (y 0).val / 56 = j.val := by
  have h1 : (y 1).val < 192 := (y 1).isLt
  rw [Rect.mem_set_unit, forall_ax]
  show ((56 * j.val ≤ (y 0).val ∧ (y 0).val < 56 * j.val + 56) ∧ (0 ≤ (y 1).val ∧ (y 1).val < 0 + 192)) ↔ _
  omega

theorem win_disjoint (j j' : Fin 4) (h : j ≠ j') : Disjoint (winRect j).set (winRect j').set :=
  Finset.disjoint_left.mpr fun y h1 h2 =>
    h (Fin.ext (((mem_winRect j y).mp h1).symm.trans ((mem_winRect j' y).mp h2)))

theorem win_cover : Finset.univ.biUnion (fun j => (winRect j).set) = (Finset.univ : Finset S224x192.Idx) :=
  Finset.eq_univ_iff_forall.mpr fun y => Finset.mem_biUnion.mpr
    ⟨⟨(y 0).val / 56, by have : (y 0).val < 224 := (y 0).isLt; omega⟩, Finset.mem_univ _, (mem_winRect _ y).mpr rfl⟩

/-- A slab's contents seen through its window `j`. -/
def winVal (X : S224x192.Idx → F .f32) (j : Fin 4) : S56x192.Idx → F .f32 := fun y => X ((winRect j).emb y)

theorem slab_cut (A : Memref sig .scVector .vmem S224x192 .f32) (X : S224x192.Idx → F .f32) :
    (owns (thrOf d i) A fullShare X : sProp 𝕄) ⊢ bigSep Finset.univ fun j => owns (thrOf d i) (winOf A j) fullShare (winVal X j) :=
  owns_rects (Val := Elt F) (T := Fin 4) (sh := S224x192) (thrOf d i) A fullShare winRect (fun _ _ => rfl) win_disjoint win_cover X

theorem slab_glue [∀ e, Nonempty (Elt F e)] (A : Memref sig .scVector .vmem S224x192 .f32) (X : S224x192.Idx → F .f32) :
    (bigSep Finset.univ fun j => owns (thrOf d i) (winOf A j) fullShare (winVal X j)) ⊢ (owns (thrOf d i) A fullShare X : sProp 𝕄) :=
  owns_of_rects (Val := Elt F) (T := Fin 4) (sh := S224x192) (thrOf d i) A fullShare winRect (fun _ _ => rfl) win_disjoint win_cover X

end Windows

end Cert.Proof.Unpool

end
-- ==== Proof.Unit.lean ====
/- One unit of a tile's work: the row it takes, the blocks of the result it fills, what they hold in
   the end, and the four copies out of a slab and their four waits taken together. -/
module

public import proofs.«01_k».proof.Proof.Copy

@[expose] public section

noncomputable section

namespace Cert.Proof.Unpool

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers
open Idealize.ShloMosaic.Tactic

variable {F : FTy → Type}

local notation "𝕄" => MT nD τ sig (HIx 1) (Elt F) ℕ UU ℕ

/-! ## The arithmetic of a unit -/

/-- The row a tile takes at trip `t`, slot `s`. -/
def unitRow (i : grid0.Coords) (t s : ℕ) : ℕ := 64 * t + 32 * s + 2 * (i 1).val + (i 0).val

/-- The flat position in its sample's output volume of the first element of a row's windows. -/
def baseOf (r : ℕ) : ℕ := (112 * ((r % 224) / 28) + 2 * (r % 28)) * 56

theorem baseOf_lt (r : ℕ) : baseOf r < 1000000 := by unfold baseOf; omega

theorem k0_off16_eq : ∀ (i : grid0.Coords) (t : Fin k0_t3_loop.trips) (s a b : Fin 2),
    k0_off16 i t (BitVec.ofNat 32 s.val) (BitVec.ofNat 32 a.val) (BitVec.ofNat 32 b.val)
      = ![unitRow i t.val s.val / 224, 2 * (unitRow i t.val s.val % 224 / 28) + a.val, 2 * (unitRow i t.val s.val % 28) + b.val, 0, 0] := by
  decide +kernel

theorem k0_cond1_iff : ∀ t : Fin k0_t3_loop.trips, k0_cond1 t = 1#1 ↔ 0 < t.val := by decide +kernel
theorem k0_cond2_iff : ∀ t : Fin k0_t3_loop.trips, k0_cond2 t = 1#1 ↔ 0 < t.val := by decide +kernel

/-- The kernel's words for a tile's number, a unit's row within its sample, the row's depth and height,
    and the base its row numbers are counted from. -/
def wordTile (i : grid0.Coords) : BitVec 32 := Scalar.addi (Scalar.muli (BitVec.ofNat 32 (i 1).val) 2#32) (BitVec.ofNat 32 (i 0).val)
def wordTrip (t : Fin k0_t3_loop.trips) : BitVec 32 := Scalar.addi 0#32 (Scalar.muli (Scf.iv 0#32 1#32 t) 1#32)
def wordUnit (t : Fin k0_t3_loop.trips) (s : BitVec 32) : BitVec 32 := Scalar.addi (Scalar.muli (wordTrip t) 2#32) s
def wordRow (i : grid0.Coords) (t : Fin k0_t3_loop.trips) (s : BitVec 32) : BitVec 32 :=
  Scalar.addi (Scalar.muli (wordUnit t s) 32#32) (wordTile i)
def wordIn (i : grid0.Coords) (t : Fin k0_t3_loop.trips) (s : BitVec 32) : BitVec 32 :=
  Scalar.subi (wordRow i t s) (Scalar.muli (Scalar.extui (Scalar.cmpi .sge (wordRow i t s) 224#32)) 224#32)
def wordD (i : grid0.Coords) (t : Fin k0_t3_loop.trips) (s : BitVec 32) : BitVec 32 := Scalar.shrsi (Scalar.muli (wordIn i t s) 586#32) 14#32
def wordH (i : grid0.Coords) (t : Fin k0_t3_loop.trips) (s : BitVec 32) : BitVec 32 :=
  Scalar.subi (wordIn i t s) (Scalar.muli (wordD i t s) 28#32)
def wordBase (v140 v142 : BitVec 32) : BitVec 32 :=
  Scalar.muli (Scalar.addi (Scalar.muli 112#32 v140) (Scalar.muli 2#32 v142)) 56#32

theorem wordBase_toNat : ∀ (i : grid0.Coords) (t : Fin k0_t3_loop.trips) (s : Fin 2),
    (wordBase (wordD i t (BitVec.ofNat 32 s.val)) (wordH i t (BitVec.ofNat 32 s.val))).toNat = baseOf (unitRow i t.val s.val) := by
  decide +kernel

theorem unitRow_lt : ∀ (i : grid0.Coords) (t : Fin k0_t3_loop.trips) (s : Fin 2), unitRow i t.val s.val < 448 := by
  decide +kernel

/-! ## The blocks of the result -/

/-- Block `j = 2a + b` of the result that trip `t`, slot `s` fills, as the kernel slices it. -/
abbrev blkOf (R : Memref sig .scVector .hbm S2x16x56x56x192 .f32) (i : grid0.Coords) (t : Fin k0_t3_loop.trips) (s : Fin 2) (j : Fin 4) :
    Memref sig .scVector .hbm S56x192 .f32 :=
  (R.slice (Rect.unit (s := S2x16x56x56x192)
    (k0_off16 i t (BitVec.ofNat 32 s.val) (BitVec.ofNat 32 (j.val / 2)) (BitVec.ofNat 32 (j.val % 2))) S1x1x1x56x192.size
    (k0_off16_inb i t s ⟨j.val / 2, by have := j.isLt; omega⟩ ⟨j.val % 2, by omega⟩)) (fun _ => rfl)).squeeze S56x192 squeezes_S1x1x1x56x192_S56x192

theorem blkOf_credit (R : Memref sig .scVector .hbm S2x16x56x56x192 .f32) (i : grid0.Coords) (t : Fin k0_t3_loop.trips) (s : Fin 2) (j : Fin 4) :
    (blkOf R i t s j).view.dmaCredit = outCredit R := rfl

theorem outCredit_pos (R : Memref sig .scVector .hbm S2x16x56x56x192 .f32) : 0 < outCredit R := sig.dmaCredit_pos _ _ _ _ _ (by decide)

variable [FloatOps F]

/-- The slab a row of values and a row of indices make. -/
def slabOf (X : S448x5376.Idx → F .f32) (J : S448x5376.Idx → BitVec 32) (r : ℕ) : S224x192.Idx → F .f32 :=
  slabAt zero (baseOf r) (rowAt (F := F) (e := .i32) J r) (rowAt (F := F) (e := .f32) X r) 5376

/-- The blocks of a unit before it is done, at whatever they hold, and after, at what it puts there. -/
def pend (d : Dev nD) (i : grid0.Coords) (R : Memref sig .scVector .hbm S2x16x56x56x192 .f32) (t : Fin k0_t3_loop.trips) (s : Fin 2) : sProp 𝕄 :=
  bigSep Finset.univ fun j : Fin 4 => iprop(∃ Z, owns (thrOf d i) (blkOf R i t s j) fullShare Z)
def done (d : Dev nD) (i : grid0.Coords) (R : Memref sig .scVector .hbm S2x16x56x56x192 .f32) (X : S448x5376.Idx → F .f32) (J : S448x5376.Idx → BitVec 32)
    (t : Fin k0_t3_loop.trips) (s : Fin 2) : sProp 𝕄 :=
  bigSep Finset.univ fun j : Fin 4 => owns (thrOf d i) (blkOf R i t s j) fullShare (winVal (slabOf X J (unitRow i t.val s.val)) j)

theorem bigSep_four (Φ : Fin 4 → sProp 𝕄) : bigSep Finset.univ Φ = iprop(Φ 0 ∗ Φ 1 ∗ Φ 2 ∗ Φ 3) :=
  bigSep_univ_eq_bigSepL [0, 1, 2, 3] (by decide) (by decide) Φ

section Four
variable {d : Dev nD} {i : grid0.Coords} {α : Type}

theorem sent_all (blk : Fin 4 → Memref sig .scVector .hbm S56x192 .f32)
    (win : Fin 4 → Memref sig .scVector .vmem S56x192 .f32) (Y : Fin 4 → S56x192.Idx → F .f32) :
    bigSep Finset.univ (sent (F := F) d i blk win Y)
      = iprop((bigSep Finset.univ fun j : Fin 4 => owns (thrOf d i) (blk j) fullShare (Y j))
          ∗ bigSep Finset.univ fun j : Fin 4 => owns (thrOf d i) (win j) fullShare (Y j)) := by
  unfold sent; exact bigSep_sep' _ _ _

/-- The four copies of a slab into a unit's blocks, issued one after another. -/
theorem wp_sendAll {Q : α → sProp 𝕄} {A : Memref sig .scVector .vmem S224x192 .f32} {R : Memref sig .scVector .hbm S2x16x56x56x192 .f32}
    {t : Fin k0_t3_loop.trips} {s : Fin 2} {X : S224x192.Idx → F .f32} {sm : DmaSem sig}
    {s0 s1 s2 s3 : Memref sig .scVector .vmem S56x192 .f32} {d0 d1 d2 d3 : Memref sig .scVector .hbm S56x192 .f32}
    (hs0 : s0 = winOf A 0) (hs1 : s1 = winOf A 1) (hs2 : s2 = winOf A 2) (hs3 : s3 = winOf A 3)
    (hd0 : d0 = blkOf R i t s 0) (hd1 : d1 = blkOf R i t s 1) (hd2 : d2 = blkOf R i t s 2) (hd3 : d3 = blkOf R i t s 3)
    {w0 w0' w1 w1' w2 w2' w3 w3'}
    {y0 : DmaTarget.Typed (nD := nD) (τ := τ) (p := (thrOf d i).2) .vmem (.dma sm) (.here d0)}
    {y1 : DmaTarget.Typed (nD := nD) (τ := τ) (p := (thrOf d i).2) .vmem (.dma sm) (.here d1)}
    {y2 : DmaTarget.Typed (nD := nD) (τ := τ) (p := (thrOf d i).2) .vmem (.dma sm) (.here d2)}
    {y3 : DmaTarget.Typed (nD := nD) (τ := τ) (p := (thrOf d i).2) .vmem (.dma sm) (.here d3)}
    {k : PUnit → Prog (TpuEff nD τ sig (Elt F) Λ₀ (.scVector ((i 0).castLE hcore0) ((i 1).castLE hsub0))) α} :
    (iprop(owns (thrOf d i) A fullShare X ∗ pend (F := F) d i R t s ∗ semVal (thrOf d i, .dma sm) 0) : sProp 𝕄)
      ⊢ iprop((Batch (EC (F := F)) (thrOf d i) (.dma sm) none (outCredit R) (sent (F := F) d i (blkOf R i t s) (winOf A) (winVal X)) 4 0 -∗ tileWp d i (k ⟨⟩) Q)
          -∗ tileWp d i (.op (.enqueueDma s0 (.here d0) (.dma sm) w0 w0' y0) fun _ => .op (.enqueueDma s1 (.here d1) (.dma sm) w1 w1' y1) fun _ =>
              .op (.enqueueDma s2 (.here d2) (.dma sm) w2 w2' y2) fun _ => .op (.enqueueDma s3 (.here d3) (.dma sm) w3 w3' y3) k) Q) := by
  subst hs0 hs1 hs2 hs3 hd0 hd1 hd2 hd3
  unfold pend
  rw [bigSep_four]
  iintro ⟨HA, ⟨⟨%Z0, H0⟩, ⟨%Z1, H1⟩, ⟨%Z2, H2⟩, ⟨%Z3, H3⟩⟩, Hv⟩ Hk
  ihave HW := ((slab_cut (d := d) (i := i) A X).trans (Entails.of_eq (bigSep_four _))) $$ HA
  icases HW with ⟨HW0, HW1, HW2, HW3⟩
  unfold tileWp
  imod (batch_alloc' (EC (F := F)) (thrOf d i) (sm := .dma sm) (none : HIx 1) (outCredit R)
    (sent (F := F) d i (blkOf R i t s) (winOf A) (winVal X))) $$ Hv with HB
  iapply (wp_send (d := d) (i := i) (blk := blkOf R i t s) (win := winOf A) (Y := winVal X) (j := 0) (by decide) rfl rfl (blkOf_credit R i t s 0)) $$ [HW0 H0 HB]
  · isplitl [HW0]; · iexact HW0
    isplitl [H0]; · iexact H0
    iexact HB
  iintro HB
  iapply (wp_send (d := d) (i := i) (blk := blkOf R i t s) (win := winOf A) (Y := winVal X) (j := 1) (by decide) rfl rfl (blkOf_credit R i t s 1)) $$ [HW1 H1 HB]
  · isplitl [HW1]; · iexact HW1
    isplitl [H1]; · iexact H1
    iexact HB
  iintro HB
  iapply (wp_send (d := d) (i := i) (blk := blkOf R i t s) (win := winOf A) (Y := winVal X) (j := 2) (by decide) rfl rfl (blkOf_credit R i t s 2)) $$ [HW2 H2 HB]
  · isplitl [HW2]; · iexact HW2
    isplitl [H2]; · iexact H2
    iexact HB
  iintro HB
  iapply (wp_send (d := d) (i := i) (blk := blkOf R i t s) (win := winOf A) (Y := winVal X) (j := 3) (by decide) rfl rfl (blkOf_credit R i t s 3)) $$ [HW3 H3 HB]
  · isplitl [HW3]; · iexact HW3
    isplitl [H3]; · iexact H3
    iexact HB
  iexact Hk

/-- The four waits for a slab's copies: the slab back and the unit's blocks filled. -/
theorem wp_awaitAll [∀ e, Nonempty (Elt F e)] {Q : α → sProp 𝕄} {A : Memref sig .scVector .vmem S224x192 .f32} {R : Memref sig .scVector .hbm S2x16x56x56x192 .f32}
    {t : Fin k0_t3_loop.trips} {s : Fin 2} {X : S224x192.Idx → F .f32} {sm : DmaSem sig}
    {s0 s1 s2 s3 : Memref sig .scVector .vmem S56x192 .f32} {d0 d1 d2 d3 : Memref sig .scVector .hbm S56x192 .f32}
    (h0 : d0.view.dmaCredit = outCredit R) (h1 : d1.view.dmaCredit = outCredit R) (h2 : d2.view.dmaCredit = outCredit R) (h3 : d3.view.dmaCredit = outCredit R)
    {w0 w0' w1 w1' w2 w2' w3 w3'}
    {k : PUnit → Prog (TpuEff nD τ sig (Elt F) Λ₀ (.scVector ((i 0).castLE hcore0) ((i 1).castLE hsub0))) α}
    {O : CellTallies nD τ sig (HIx 1)} {W : Waits sig (HIx 1)} :
    (iprop(MayWaits (thrOf d i) none O
        ∗ Batch (EC (F := F)) (thrOf d i) (.dma sm) none (outCredit R) (sent (F := F) d i (blkOf R i t s) (winOf A) (winVal X)) 4 0 ∗ owed d i O W) : sProp 𝕄)
      ⊢ iprop((iprop(owns (thrOf d i) A fullShare X ∗ (bigSep Finset.univ fun j : Fin 4 => owns (thrOf d i) (blkOf R i t s j) fullShare (winVal X j))
              ∗ semVal (thrOf d i, .dma sm) 0 ∗ owed d i O W) -∗ tileWp d i (k ⟨⟩) Q)
          -∗ tileWp d i (.op (.waitDma2 sm s0 d0 w0 w0') fun _ => .op (.waitDma2 sm s1 d1 w1 w1') fun _ =>
              .op (.waitDma2 sm s2 d2 w2 w2') fun _ => .op (.waitDma2 sm s3 d3 w3 w3') k) Q) := by
  iintro ⟨#Hmw, HB, HO⟩ Hk
  iapply (wp_await (d := d) (i := i) (u := 0) h0 (outCredit_pos R) (by decide)) $$ [HB HO]
  · isplitr; · iexact Hmw
    isplitl [HB]; · rw [Nat.zero_mul]; iexact HB
    iexact HO
  iintro ⟨HB, HO⟩
  iapply (wp_await (d := d) (i := i) (u := 1) h1 (outCredit_pos R) (by decide)) $$ [HB HO]
  · isplitr; · iexact Hmw
    isplitl [HB]; · iexact HB
    iexact HO
  iintro ⟨HB, HO⟩
  iapply (wp_await (d := d) (i := i) (u := 2) h2 (outCredit_pos R) (by decide)) $$ [HB HO]
  · isplitr; · iexact Hmw
    isplitl [HB]; · iexact HB
    iexact HO
  iintro ⟨HB, HO⟩
  iapply (wp_awaitLast (d := d) (i := i) h3 (outCredit_pos R)) $$ [HB HO]
  · isplitr; · iexact Hmw
    isplitl [HB]; · iexact HB
    iexact HO
  iintro ⟨HD, Hv, HO⟩
  iapply Hk
  ihave HD' := (Entails.of_eq (sent_all (blkOf R i t s) (winOf A) (winVal X))) $$ HD
  icases HD' with ⟨HR, HA⟩
  isplitl [HA]; · iapply (slab_glue (d := d) (i := i) A X); iexact HA
  isplitl [HR]; · iexact HR
  isplitl [Hv]; · iexact Hv
  iexact HO

end Four

end Cert.Proof.Unpool

end
-- ==== Proof.Slot.lean ====
/- One slot of a trip: the loops over a row run whole, the row's fetches, the clearing of what the slot
   held before, and the copies out. -/
module

public import proofs.«01_k».proof.Proof.Unit

@[expose] public section

noncomputable section

namespace Cert.Proof.Unpool

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers
open Idealize.ShloMosaic.Tactic

variable {F : FTy → Type}

local notation "𝕄" => MT nD τ sig (HIx 1) (Elt F) ℕ UU ℕ

variable [FloatOps F]

section Seq
variable {d : Dev nD} {i : grid0.Coords} {α β : Type}

/-- A program run from `H` at the head of another. -/
theorem tile_seq {H : sProp 𝕄} {p : Prog (TpuEff nD τ sig (Elt F) Λ₀ (.scVector ((i 0).castLE hcore0) ((i 1).castLE hsub0))) α}
    {k : α → Prog (TpuEff nD τ sig (Elt F) Λ₀ (.scVector ((i 0).castLE hcore0) ((i 1).castLE hsub0))) β} {Q' : α → sProp 𝕄} {Q : β → sProp 𝕄}
    (h : H ⊢ tileWp d i p Q') : H ⊢ iprop((∀ a, Q' a -∗ tileWp d i (k a) Q) -∗ tileWp d i (p >>= k) Q) := by
  unfold tileWp at *
  rw [wp_bind]
  exact h.trans (wp_wand _ _ _)

end Seq

/-! ## What a slot holds between trips -/

/-- A slot with nothing in flight: a clear slab, an index row at anything, its semaphore at zero; or with
    the copies of trip `t`'s slab in flight and the index row as that trip left it. -/
def slotSt (d : Dev nD) (i : grid0.Coords) (A : Memref sig .scVector .vmem S224x192 .f32) (B : Memref sig .scVector .vmem S5376 .i32)
    (R : Memref sig .scVector .hbm S2x16x56x56x192 .f32) (sm : DmaSem sig) (X : S448x5376.Idx → F .f32) (J : S448x5376.Idx → BitVec 32) (s : Fin 2) :
    Option (Fin k0_t3_loop.trips) → sProp 𝕄
  | none => iprop(owns (thrOf d i) A fullShare (fun _ => zero) ∗ (∃ Z, owns (thrOf d i) B fullShare Z) ∗ semVal (thrOf d i, .dma sm) 0)
  | some t => iprop(Batch (EC (F := F)) (thrOf d i) (.dma sm) none (outCredit R)
        (sent (F := F) d i (blkOf R i t s) (winOf A) (winVal (slabOf X J (unitRow i t.val s.val)))) 4 0
      ∗ owns (thrOf d i) B fullShare (ibufAt (baseOf (unitRow i t.val s.val)) (rowAt (F := F) (e := .i32) J (unitRow i t.val s.val)) 5376))

/-- The blocks of the trip before, once its copies have landed. -/
def doneIf (d : Dev nD) (i : grid0.Coords) (R : Memref sig .scVector .hbm S2x16x56x56x192 .f32) (X : S448x5376.Idx → F .f32) (J : S448x5376.Idx → BitVec 32)
    (s : Fin 2) : Option (Fin k0_t3_loop.trips) → sProp 𝕄
  | none => iprop(emp)
  | some t => done (F := F) d i R X J t s

section Slots
variable (d : Dev nD) (i : grid0.Coords) (arg2 : Memref sig .scVector .hbm S448x5376 .f32) (harg2 : arg2.IsWhole)
  (arg3 : Memref sig .scVector .hbm S448x5376 .i32) (harg3 : arg3.IsWhole) (arg4 : Memref sig .scVector .hbm S2x16x56x56x192 .f32) (harg4 : arg4.IsWhole)
  (arg5 : Memref sig .scVector .vmem S224x192 .f32) (harg5 : arg5.IsWhole) (arg6 : Memref sig .scVector .vmem S224x192 .f32) (harg6 : arg6.IsWhole)
  (arg7 : Memref sig .scVector .vmem S5376 .i32) (harg7 : arg7.IsWhole) (arg8 : Memref sig .scVector .vmem S5376 .i32) (harg8 : arg8.IsWhole)
  (arg9 : Memref sig .scVector .vmem S5376 .f32) (harg9 : arg9.IsWhole) (arg10 arg11 arg12 arg13 : DmaSems sig S_)

theorem t5_loop {B : ℕ} {ix : ℕ → BitVec 32} {vl : ℕ → F .f32} (hwf : Wf B ix) (hBlt : B < 1000000)
    {v1 v132 v140 v142 c112 v165 : BitVec 32} {v3 : IVec S16 32} (hB : v165.toNat = B) {q : PosShare TreeShare} :
    (iprop(owns (thrOf d i) arg5 fullShare (fun _ => zero) ∗ owns (thrOf d i) arg7 fullShare (fun x => ix (x 0).val)
        ∗ owns (thrOf d i) arg9 q (fun x => vl (x 0).val)) : sProp 𝕄)
      ⊢ tileWp d i (Scf.Loop.for k0_t5_loop k0_t5_ok ⟨⟩ (k0_t5_body (F := F) i arg2 harg2 arg3 harg3 arg4 harg4 arg5 harg5 arg6 harg6 arg7 harg7 arg8 harg8 arg9 harg9 arg10 arg11 arg12 arg13
          v1 v3 k0_pay100 k0_pay101 k0_pay102 k0_pay103 k0_pay104 k0_pay105 k0_pay106 k0_pay107 k0_pay108 k0_pay109 k0_pay110 k0_pay111
          v132 v140 v142 c112 v165))
        (fun _ => (iprop(owns (thrOf d i) arg5 fullShare (slabAt zero B ix vl 5376) ∗ owns (thrOf d i) arg7 fullShare (ibufAt B ix 5376)
          ∗ owns (thrOf d i) arg9 q (fun x => vl (x 0).val)) : sProp 𝕄)) := by
  iintro H
  iapply (Scf.wp_for (E := TpuEff nD τ sig (Elt F) Λ₀ (.scVector ((i 0).castLE hcore0) ((i 1).castLE hsub0))) frame (wpE (defs₀ (F := F)) 𝒱₀ (thrOf d i) none) Set.univ _ _ _ _ _ _
    (fun n _ => iprop(owns (thrOf d i) arg5 fullShare (slabAt zero B ix vl (192 * n)) ∗ owns (thrOf d i) arg7 fullShare (ibufAt B ix (192 * n))
        ∗ owns (thrOf d i) arg9 q (fun x => vl (x 0).val)))
    fun w acc => t5_trip d i arg2 harg2 arg3 harg3 arg4 harg4 arg5 harg5 arg6 harg6 arg7 harg7 arg8 harg8 arg9 harg9 arg10 arg11 arg12 arg13 hwf hBlt hB w acc)
  isplitl [H]
  · rw [Nat.mul_zero, slabAt_zero, ibufAt_zero]; iexact H
  · iintro %_ H; iexact H

theorem t7_loop {B : ℕ} {ix : ℕ → BitVec 32} {vl : ℕ → F .f32} (hwf : Wf B ix) (hBlt : B < 1000000)
    {v1 v218 v250 c56 v251 : BitVec 32} {v3 : IVec S16 32} (hB : v251.toNat = B) {q : PosShare TreeShare} :
    (iprop(owns (thrOf d i) arg6 fullShare (fun _ => zero) ∗ owns (thrOf d i) arg8 fullShare (fun x => ix (x 0).val)
        ∗ owns (thrOf d i) arg9 q (fun x => vl (x 0).val)) : sProp 𝕄)
      ⊢ tileWp d i (Scf.Loop.for k0_t7_loop k0_t7_ok ⟨⟩ (k0_t7_body (F := F) i arg2 harg2 arg3 harg3 arg4 harg4 arg5 harg5 arg6 harg6 arg7 harg7 arg8 harg8 arg9 harg9 arg10 arg11 arg12 arg13
          v1 v3 k0_pay100 k0_pay101 k0_pay102 k0_pay103 k0_pay104 k0_pay105 k0_pay106 k0_pay107 k0_pay108 k0_pay109 k0_pay110 k0_pay111
          v218 v250 c56 v251))
        (fun _ => (iprop(owns (thrOf d i) arg6 fullShare (slabAt zero B ix vl 5376) ∗ owns (thrOf d i) arg8 fullShare (ibufAt B ix 5376)
          ∗ owns (thrOf d i) arg9 q (fun x => vl (x 0).val)) : sProp 𝕄)) := by
  iintro H
  iapply (Scf.wp_for (E := TpuEff nD τ sig (Elt F) Λ₀ (.scVector ((i 0).castLE hcore0) ((i 1).castLE hsub0))) frame (wpE (defs₀ (F := F)) 𝒱₀ (thrOf d i) none) Set.univ _ _ _ _ _ _
    (fun n _ => iprop(owns (thrOf d i) arg6 fullShare (slabAt zero B ix vl (192 * n)) ∗ owns (thrOf d i) arg8 fullShare (ibufAt B ix (192 * n))
        ∗ owns (thrOf d i) arg9 q (fun x => vl (x 0).val)))
    fun w acc => t7_trip d i arg2 harg2 arg3 harg3 arg4 harg4 arg5 harg5 arg6 harg6 arg7 harg7 arg8 harg8 arg9 harg9 arg10 arg11 arg12 arg13 hwf hBlt hB w acc)
  isplitl [H]
  · rw [Nat.mul_zero, slabAt_zero, ibufAt_zero]; iexact H
  · iintro %_ H; iexact H

theorem t4_loop {B : ℕ} {ix : ℕ → BitVec 32} {vl : ℕ → F .f32} (hwf : Wf B ix)
    {v1 c0 c1 : BitVec 32} {t3 : Fin k0_t3_loop.trips} {h1 : k0_cond1 t3 = 1#1} :
    (iprop(owns (thrOf d i) arg5 fullShare (slabAt zero B ix vl 5376) ∗ owns (thrOf d i) arg7 fullShare (ibufAt B ix 5376)) : sProp 𝕄)
      ⊢ tileWp d i (Scf.Loop.for k0_t4_loop (k0_t4_ok t3 h1) ⟨⟩ (k0_t4_body (F := F) i arg2 harg2 arg3 harg3 arg4 harg4 arg5 harg5 arg6 harg6 arg7 harg7 arg8 harg8 arg9 harg9 arg10 arg11 arg12 arg13
          v1 k0_pay99 c0 c1 t3 h1))
        (fun _ => (iprop(owns (thrOf d i) arg5 fullShare (fun _ => zero) ∗ owns (thrOf d i) arg7 fullShare (ibufAt B ix 5376)) : sProp 𝕄)) := by
  iintro H
  iapply (Scf.wp_for (E := TpuEff nD τ sig (Elt F) Λ₀ (.scVector ((i 0).castLE hcore0) ((i 1).castLE hsub0))) frame (wpE (defs₀ (F := F)) 𝒱₀ (thrOf d i) none) Set.univ _ _ _ _ _ _
    (fun n _ => iprop(owns (thrOf d i) arg5 fullShare (clearAt zero B ix vl (16 * n)) ∗ owns (thrOf d i) arg7 fullShare (ibufAt B ix 5376)))
    fun w acc => t4_trip d i arg2 harg2 arg3 harg3 arg4 harg4 arg5 harg5 arg6 harg6 arg7 harg7 arg8 harg8 arg9 harg9 arg10 arg11 arg12 arg13 hwf w acc)
  isplitl [H]
  · rw [Nat.mul_zero, clearAt_zero]; iexact H
  · iintro %_ H
    rw [← clearAt_all zero B ix vl]; iexact H

theorem t6_loop {B : ℕ} {ix : ℕ → BitVec 32} {vl : ℕ → F .f32} (hwf : Wf B ix)
    {v1 c0 : BitVec 32} {t3 : Fin k0_t3_loop.trips} {h1 : k0_cond2 t3 = 1#1} :
    (iprop(owns (thrOf d i) arg6 fullShare (slabAt zero B ix vl 5376) ∗ owns (thrOf d i) arg8 fullShare (ibufAt B ix 5376)) : sProp 𝕄)
      ⊢ tileWp d i (Scf.Loop.for k0_t6_loop (k0_t6_ok t3 h1) ⟨⟩ (k0_t6_body (F := F) i arg2 harg2 arg3 harg3 arg4 harg4 arg5 harg5 arg6 harg6 arg7 harg7 arg8 harg8 arg9 harg9 arg10 arg11 arg12 arg13
          v1 k0_pay99 t3 c0 h1))
        (fun _ => (iprop(owns (thrOf d i) arg6 fullShare (fun _ => zero) ∗ owns (thrOf d i) arg8 fullShare (ibufAt B ix 5376)) : sProp 𝕄)) := by
  iintro H
  iapply (Scf.wp_for (E := TpuEff nD τ sig (Elt F) Λ₀ (.scVector ((i 0).castLE hcore0) ((i 1).castLE hsub0))) frame (wpE (defs₀ (F := F)) 𝒱₀ (thrOf d i) none) Set.univ _ _ _ _ _ _
    (fun n _ => iprop(owns (thrOf d i) arg6 fullShare (clearAt zero B ix vl (16 * n)) ∗ owns (thrOf d i) arg8 fullShare (ibufAt B ix 5376)))
    fun w acc => t6_trip d i arg2 harg2 arg3 harg3 arg4 harg4 arg5 harg5 arg6 harg6 arg7 harg7 arg8 harg8 arg9 harg9 arg10 arg11 arg12 arg13 hwf w acc)
  isplitl [H]
  · rw [Nat.mul_zero, clearAt_zero]; iexact H
  · iintro %_ H
    rw [← clearAt_all zero B ix vl]; iexact H

theorem t1_loop {g : Vec F S224x192 .f32} :
    (owns (thrOf d i) arg5 fullShare g : sProp 𝕄)
      ⊢ tileWp d i (Scf.Loop.for k0_t1_loop k0_t1_ok ⟨⟩ (k0_t1_body (F := F) i arg2 harg2 arg3 harg3 arg4 harg4 arg5 harg5 arg6 harg6 arg7 harg7 arg8 harg8 arg9 harg9 arg10 arg11 arg12 arg13
          k0_pay100 k0_pay101 k0_pay102 k0_pay103 k0_pay104 k0_pay105 k0_pay106 k0_pay107 k0_pay108 k0_pay109 k0_pay110 k0_pay111))
        (fun _ => (owns (thrOf d i) arg5 fullShare (fun _ => zero) : sProp 𝕄)) := by
  iintro H
  iapply (Scf.wp_for (E := TpuEff nD τ sig (Elt F) Λ₀ (.scVector ((i 0).castLE hcore0) ((i 1).castLE hsub0))) frame (wpE (defs₀ (F := F)) 𝒱₀ (thrOf d i) none) Set.univ _ _ _ _ _ _
    (fun n _ => owns (thrOf d i) arg5 fullShare (fillAt zero g (192 * n)))
    fun w acc => t1_trip d i arg2 harg2 arg3 harg3 arg4 harg4 arg5 harg5 arg6 harg6 arg7 harg7 arg8 harg8 arg9 harg9 arg10 arg11 arg12 arg13 w acc)
  isplitl [H]
  · rw [Nat.mul_zero, fillAt_zero]; iexact H
  · iintro %_ H
    rw [← fillAt_all zero g]; iexact H

theorem t2_loop {g : Vec F S224x192 .f32} :
    (owns (thrOf d i) arg6 fullShare g : sProp 𝕄)
      ⊢ tileWp d i (Scf.Loop.for k0_t2_loop k0_t2_ok ⟨⟩ (k0_t2_body (F := F) i arg2 harg2 arg3 harg3 arg4 harg4 arg5 harg5 arg6 harg6 arg7 harg7 arg8 harg8 arg9 harg9 arg10 arg11 arg12 arg13
          k0_pay100 k0_pay101 k0_pay102 k0_pay103 k0_pay104 k0_pay105 k0_pay106 k0_pay107 k0_pay108 k0_pay109 k0_pay110 k0_pay111))
        (fun _ => (owns (thrOf d i) arg6 fullShare (fun _ => zero) : sProp 𝕄)) := by
  iintro H
  iapply (Scf.wp_for (E := TpuEff nD τ sig (Elt F) Λ₀ (.scVector ((i 0).castLE hcore0) ((i 1).castLE hsub0))) frame (wpE (defs₀ (F := F)) 𝒱₀ (thrOf d i) none) Set.univ _ _ _ _ _ _
    (fun n _ => owns (thrOf d i) arg6 fullShare (fillAt zero g (192 * n)))
    fun w acc => t2_trip d i arg2 harg2 arg3 harg3 arg4 harg4 arg5 harg5 arg6 harg6 arg7 harg7 arg8 harg8 arg9 harg9 arg10 arg11 arg12 arg13 w acc)
  isplitl [H]
  · rw [Nat.mul_zero, fillAt_zero]; iexact H
  · iintro %_ H
    rw [← fillAt_all zero g]; iexact H

theorem k0_off1_row (i : grid0.Coords) (t : Fin k0_t3_loop.trips) (s : Fin 2) : k0_off1 i t (BitVec.ofNat 32 s.val) = ![unitRow i t.val s.val, 0] :=
  k0_off1_eq i t s

/-- The index row fetched and awaited while the values' row is on its way, then that awaited. -/
theorem wp_rows {α : Type} {Q : α → sProp 𝕄} {M : Memref sig .scVector .hbm S448x5376 .i32} {off : Fin 2 → ℕ}
    {hoff : ∀ a, off a + S1x5376.size a ≤ S448x5376.size a} {r : ℕ} (hr : off = ![r, 0]) {B : Memref sig .scVector .vmem S5376 .i32}
    {C : Memref sig .scVector .vmem S5376 .f32} {si sv : DmaSem sig} {hsrc : (rowOp M off hoff).view.WordExact} {hdst : B.view.WordExact}
    {hsem : DmaTarget.Typed (nD := nD) (τ := τ) (p := (thrOf d i).2) .hbm (.dma si) (.here B)}
    {m1 : Memref sig .scVector .hbm S5376 .i32} {m2 : Memref sig .scVector .hbm S5376 .f32} {w1 w1' w2 w2'}
    {k : PUnit → Prog (TpuEff nD τ sig (Elt F) Λ₀ (.scVector ((i 0).castLE hcore0) ((i 1).castLE hsub0))) α}
    {q : PosShare TreeShare} {J : S448x5376.Idx → BitVec 32} {D : sProp 𝕄} {O : CellTallies nD τ sig (HIx 1)} {W : Waits sig (HIx 1)} :
    (iprop(MayWaits (thrOf d i) none O ∗ Flight (EC (F := F)) (thrOf d i) (.dma sv) none C.view.dmaCredit D ∗ owns (thrOf d i) M q J
        ∗ (∃ Z, owns (thrOf d i) B fullShare Z) ∗ semVal (thrOf d i, .dma si) 0 ∗ owed d i O W) : sProp 𝕄)
      ⊢ iprop((iprop(D ∗ owns (thrOf d i) M q J ∗ owns (thrOf d i) B fullShare (fun x => rowAt (F := F) (e := .i32) J r (x 0).val)
            ∗ semVal (thrOf d i, .dma si) 0 ∗ semVal (thrOf d i, .dma sv) 0 ∗ owed d i O W) -∗ tileWp d i (k ⟨⟩) Q)
          -∗ tileWp d i (.op (.enqueueDma (rowOp M off hoff) (.here B) (.dma si) hsrc hdst hsem) fun _ => .op (.waitDma2 si m1 B w1 w1') fun _ =>
              .op (.waitDma2 sv m2 C w2 w2') k) Q) := by
  iintro ⟨#Hmw, Hv, H3, ⟨%Z, HB⟩, H12, Ho⟩ Hk
  iapply (wp_fetch (M := M) (r := r) hr) $$ [H3 HB H12]
  · isplitl [H3]; · iexact H3
    isplitl [HB]; · iexact HB
    iexact H12
  iintro %f ⟨Hfl, Hb⟩
  iapply (wp_landed rfl) $$ [Hfl Ho]
  · isplitl []; · iexact Hmw
    isplitl [Hfl]; · iexact Hfl
    iexact Ho
  iintro ⟨⟨HB, Hr⟩, H12, Ho⟩
  ihave H3 := Hb $$ Hr
  iapply (wp_landed rfl) $$ [Hv Ho]
  · isplitl []; · iexact Hmw
    isplitl [Hv]; · iexact Hv
    iexact Ho
  iintro ⟨HD, H13, Ho⟩
  iapply Hk
  iframe

theorem part23_run {X : S448x5376.Idx → F .f32} {J : S448x5376.Idx → BitVec 32} {q : PosShare TreeShare} {t : Fin k0_t3_loop.trips}
    {O : CellTallies nD τ sig (HIx 1)} {W : Waits sig (HIx 1)} {p : Option (Fin k0_t3_loop.trips)}
    (hwf : ∀ r < 448, Wf (baseOf r) (rowAt (F := F) (e := .i32) J r))
    (hp : (p = none ∧ ¬ k0_cond1 t = 1#1) ∨ (∃ t', p = some t' ∧ k0_cond1 t = 1#1)) :
    (iprop(MayWaits (thrOf d i) none O ∗ owns (thrOf d i) arg2 q X ∗ owns (thrOf d i) arg3 q J
        ∗ slotSt d i arg5 arg7 arg4 arg10.sem X J 0 p ∗ (∃ Z, owns (thrOf d i) arg9 fullShare Z)
        ∗ semVal (thrOf d i, .dma arg12.sem) 0 ∗ semVal (thrOf d i, .dma arg13.sem) 0 ∗ owed d i O W) : sProp 𝕄)
      ⊢ tileWp d i (k0_part23 (F := F) i arg2 harg2 arg3 harg3 arg4 harg4 arg5 harg5 arg6 harg6 arg7 harg7 arg8 harg8 arg9 harg9 arg10 arg11 arg12 arg13 (wordTile i) k0_pay99 0#32 1#32 t)
        (fun r => (iprop(⌜r = ⟨wordTrip t, wordUnit t 0#32, wordD i t 0#32, wordH i t 0#32, 112#32⟩⌝
          ∗ owns (thrOf d i) arg2 q X ∗ owns (thrOf d i) arg3 q J
          ∗ owns (thrOf d i) arg5 fullShare (fun _ => zero)
          ∗ owns (thrOf d i) arg7 fullShare (fun x => rowAt (F := F) (e := .i32) J (unitRow i t.val 0) (x 0).val)
          ∗ owns (thrOf d i) arg9 fullShare (fun x => rowAt (F := F) (e := .f32) X (unitRow i t.val 0) (x 0).val)
          ∗ semVal (thrOf d i, .dma arg10.sem) 0 ∗ semVal (thrOf d i, .dma arg12.sem) 0 ∗ semVal (thrOf d i, .dma arg13.sem) 0
          ∗ owed d i O W ∗ doneIf d i arg4 X J 0 p) : sProp 𝕄)) := by
  simp only [k0_part23_eq_skeleton]; unfold k0_part23_skel
  simp only [Prog.lift, Prog.bind_op, Prog.bind_ret, Prog.pure_eq_ret, Prog.bind_assoc]
  rcases hp with ⟨rfl, hc⟩ | ⟨t', rfl, hc⟩
  · simp only [hc, ↓reduceDIte, slotSt, doneIf]
    iintro ⟨#Hmw, H2, H3, ⟨H5, H7, H10⟩, ⟨%Z, H9⟩, H12, H13, Ho⟩
    iapply (wp_fetch (M := arg2) (r := unitRow i t.val 0) (k0_off1_row i t 0)) $$ [H2 H9 H13]
    · isplitl [H2]; · iexact H2
      isplitl [H9]; · iexact H9
      iexact H13
    iintro %f ⟨Hfl, Hb⟩
    iapply (wp_rows d i (M := arg3) (r := unitRow i t.val 0) (k0_off1_row i t 0)) $$ [Hfl H3 H7 H12 Ho]
    · isplitl []; · iexact Hmw
      isplitl [Hfl]; · iexact Hfl
      isplitl [H3]; · iexact H3
      isplitl [H7]; · iexact H7
      isplitl [H12]; · iexact H12
      iexact Ho
    iintro ⟨⟨H9, Hr⟩, H3, H7, H12, H13, Ho⟩
    ihave H2 := Hb $$ Hr
    iapply owned_ret
    iframe
    ipureintro; rfl
  · simp only [dif_pos hc, slotSt, doneIf, k0_part1_eq_skeleton]
    unfold k0_part1_skel
    simp only [Prog.bind_ret, Prog.pure_eq_ret]
    iintro ⟨#Hmw, H2, H3, ⟨Hbt, H7⟩, ⟨%Z, H9⟩, H12, H13, Ho⟩
    iapply (wp_fetch (M := arg2) (r := unitRow i t.val 0) (k0_off1_row i t 0)) $$ [H2 H9 H13]
    · isplitl [H2]; · iexact H2
      isplitl [H9]; · iexact H9
      iexact H13
    iintro %f ⟨Hfl, Hb⟩
    iapply (wp_awaitAll (A := arg5) (R := arg4) (t := t') (s := 0) rfl rfl rfl rfl) $$ [Hbt Ho]
    · isplitl []; · iexact Hmw
      isplitl [Hbt]; · iexact Hbt
      iexact Ho
    iintro ⟨H5, Hd, H10, Ho⟩
    iapply (tile_seq (t4_loop d i arg2 harg2 arg3 harg3 arg4 harg4 arg5 harg5 arg6 harg6 arg7 harg7 arg8 harg8 arg9 harg9 arg10 arg11 arg12 arg13 (hwf _ (unitRow_lt i t' 0)))) $$ [H5 H7]
    · isplitl [H5]; · iexact H5
      iexact H7
    iintro %_ ⟨H5, H7⟩
    iapply (wp_rows d i (M := arg3) (r := unitRow i t.val 0) (k0_off1_row i t 0)) $$ [Hfl H3 H7 H12 Ho]
    · isplitl []; · iexact Hmw
      isplitl [Hfl]; · iexact Hfl
      isplitl [H3]; · iexact H3
      isplitl [H7]; · iexists _; iexact H7
      isplitl [H12]; · iexact H12
      iexact Ho
    iintro ⟨⟨H9, Hr⟩, H3, H7, H12, H13, Ho⟩
    ihave H2 := Hb $$ Hr
    iapply owned_ret
    unfold done
    iframe
    ipureintro; rfl

theorem part24_run {X : S448x5376.Idx → F .f32} {J : S448x5376.Idx → BitVec 32} {t : Fin k0_t3_loop.trips}
    (hwf : ∀ r < 448, Wf (baseOf r) (rowAt (F := F) (e := .i32) J r)) {v1 v132 : BitVec 32} {v3 : IVec S16 32} :
    (iprop(owns (thrOf d i) arg5 fullShare (fun _ => zero)
        ∗ owns (thrOf d i) arg7 fullShare (fun x => rowAt (F := F) (e := .i32) J (unitRow i t.val 0) (x 0).val)
        ∗ owns (thrOf d i) arg9 fullShare (fun x => rowAt (F := F) (e := .f32) X (unitRow i t.val 0) (x 0).val)) : sProp 𝕄)
      ⊢ tileWp d i (k0_part24 (F := F) i arg2 harg2 arg3 harg3 arg4 harg4 arg5 harg5 arg6 harg6 arg7 harg7 arg8 harg8 arg9 harg9 arg10 arg11 arg12 arg13
          v1 v3 k0_pay100 k0_pay101 k0_pay102 k0_pay103 k0_pay104 k0_pay105 k0_pay106 k0_pay107 k0_pay108 k0_pay109 k0_pay110 k0_pay111 v132 (wordD i t 0#32) (wordH i t 0#32) 112#32)
        (fun _ => (iprop(owns (thrOf d i) arg5 fullShare (slabOf X J (unitRow i t.val 0))
          ∗ owns (thrOf d i) arg7 fullShare (ibufAt (baseOf (unitRow i t.val 0)) (rowAt (F := F) (e := .i32) J (unitRow i t.val 0)) 5376)
          ∗ owns (thrOf d i) arg9 fullShare (fun x => rowAt (F := F) (e := .f32) X (unitRow i t.val 0) (x 0).val)) : sProp 𝕄)) := by
  simp only [k0_part24_eq_skeleton]; unfold k0_part24_skel
  simp only [Prog.lift, Prog.bind_op, Prog.bind_ret, Prog.pure_eq_ret, Prog.bind_assoc]
  iintro ⟨H5, H7, H9⟩
  iapply (tile_seq (t5_loop d i arg2 harg2 arg3 harg3 arg4 harg4 arg5 harg5 arg6 harg6 arg7 harg7 arg8 harg8 arg9 harg9 arg10 arg11 arg12 arg13 (hwf _ (unitRow_lt i t 0)) (baseOf_lt _)
    (wordBase_toNat i t 0))) $$ [H5 H7 H9]
  · isplitl [H5]; · iexact H5
    isplitl [H7]; · iexact H7
    iexact H9
  iintro %_ ⟨H5, H7, H9⟩
  iapply owned_ret
  isplitl [H5]; · iexact H5
  isplitl [H7]; · iexact H7
  iexact H9

theorem part25_run {X : S448x5376.Idx → F .f32} {J : S448x5376.Idx → BitVec 32} {t : Fin k0_t3_loop.trips} :
    (iprop(owns (thrOf d i) arg5 fullShare (slabOf X J (unitRow i t.val 0)) ∗ pend (F := F) d i arg4 t 0 ∗ semVal (thrOf d i, .dma arg10.sem) 0
        ∗ owns (thrOf d i) arg7 fullShare (ibufAt (baseOf (unitRow i t.val 0)) (rowAt (F := F) (e := .i32) J (unitRow i t.val 0)) 5376)) : sProp 𝕄)
      ⊢ tileWp d i (k0_part25 (F := F) i arg2 harg2 arg3 harg3 arg4 harg4 arg5 harg5 arg6 harg6 arg7 harg7 arg8 harg8 arg9 harg9 arg10 arg11 arg12 arg13 t)
        (fun _ => slotSt d i arg5 arg7 arg4 arg10.sem X J 0 (some t)) := by
  simp only [k0_part25_eq_skeleton]; unfold k0_part25_skel
  simp only [Prog.lift, Prog.bind_op, Prog.bind_ret, Prog.pure_eq_ret, Prog.bind_assoc]
  iintro ⟨H5, Hp, H10, H7⟩
  iapply (wp_sendAll (A := arg5) (R := arg4) (t := t) (s := 0) rfl rfl rfl rfl rfl rfl rfl rfl) $$ [H5 Hp H10]
  · isplitl [H5]; · iexact H5
    isplitl [Hp]; · iexact Hp
    iexact H10
  iintro Hb
  iapply owned_ret
  unfold slotSt
  isplitl [Hb]; · iexact Hb
  iexact H7

theorem part26_run {X : S448x5376.Idx → F .f32} {J : S448x5376.Idx → BitVec 32} {q : PosShare TreeShare} {t : Fin k0_t3_loop.trips}
    {O : CellTallies nD τ sig (HIx 1)} {W : Waits sig (HIx 1)} {p : Option (Fin k0_t3_loop.trips)}
    (hwf : ∀ r < 448, Wf (baseOf r) (rowAt (F := F) (e := .i32) J r))
    (hp : (p = none ∧ ¬ k0_cond2 t = 1#1) ∨ (∃ t', p = some t' ∧ k0_cond2 t = 1#1)) :
    (iprop(MayWaits (thrOf d i) none O ∗ owns (thrOf d i) arg2 q X ∗ owns (thrOf d i) arg3 q J
        ∗ slotSt d i arg6 arg8 arg4 arg11.sem X J 1 p ∗ (∃ Z, owns (thrOf d i) arg9 fullShare Z)
        ∗ semVal (thrOf d i, .dma arg12.sem) 0 ∗ semVal (thrOf d i, .dma arg13.sem) 0 ∗ owed d i O W) : sProp 𝕄)
      ⊢ tileWp d i (k0_part26 (F := F) i arg2 harg2 arg3 harg3 arg4 harg4 arg5 harg5 arg6 harg6 arg7 harg7 arg8 harg8 arg9 harg9 arg10 arg11 arg12 arg13 (wordTile i) k0_pay99 t (wordTrip t))
        (fun r => (iprop(⌜r = ⟨wordUnit t 1#32, Scalar.addi (Scalar.muli 112#32 (wordD i t 1#32)) (Scalar.muli 2#32 (wordH i t 1#32)), 56#32⟩⌝
          ∗ owns (thrOf d i) arg2 q X ∗ owns (thrOf d i) arg3 q J
          ∗ owns (thrOf d i) arg6 fullShare (fun _ => zero)
          ∗ owns (thrOf d i) arg8 fullShare (fun x => rowAt (F := F) (e := .i32) J (unitRow i t.val 1) (x 0).val)
          ∗ owns (thrOf d i) arg9 fullShare (fun x => rowAt (F := F) (e := .f32) X (unitRow i t.val 1) (x 0).val)
          ∗ semVal (thrOf d i, .dma arg11.sem) 0 ∗ semVal (thrOf d i, .dma arg12.sem) 0 ∗ semVal (thrOf d i, .dma arg13.sem) 0
          ∗ owed d i O W ∗ doneIf d i arg4 X J 1 p) : sProp 𝕄)) := by
  simp only [k0_part26_eq_skeleton]; unfold k0_part26_skel
  simp only [Prog.lift, Prog.bind_op, Prog.bind_ret, Prog.pure_eq_ret, Prog.bind_assoc]
  rcases hp with ⟨rfl, hc⟩ | ⟨t', rfl, hc⟩
  · simp only [hc, ↓reduceDIte, slotSt, doneIf]
    iintro ⟨#Hmw, H2, H3, ⟨H6, H8, H11⟩, ⟨%Z, H9⟩, H12, H13, Ho⟩
    iapply (wp_fetch (M := arg2) (r := unitRow i t.val 1) (k0_off1_row i t 1)) $$ [H2 H9 H13]
    · isplitl [H2]; · iexact H2
      isplitl [H9]; · iexact H9
      iexact H13
    iintro %f ⟨Hfl, Hb⟩
    iapply (wp_rows d i (M := arg3) (r := unitRow i t.val 1) (k0_off1_row i t 1)) $$ [Hfl H3 H8 H12 Ho]
    · isplitl []; · iexact Hmw
      isplitl [Hfl]; · iexact Hfl
      isplitl [H3]; · iexact H3
      isplitl [H8]; · iexact H8
      isplitl [H12]; · iexact H12
      iexact Ho
    iintro ⟨⟨H9, Hr⟩, H3, H8, H12, H13, Ho⟩
    ihave H2 := Hb $$ Hr
    iapply owned_ret
    iframe
    ipureintro; rfl
  · simp only [dif_pos hc, slotSt, doneIf, k0_part12_eq_skeleton]
    unfold k0_part12_skel
    simp only [Prog.bind_ret, Prog.pure_eq_ret]
    iintro ⟨#Hmw, H2, H3, ⟨Hbt, H8⟩, ⟨%Z, H9⟩, H12, H13, Ho⟩
    iapply (wp_fetch (M := arg2) (r := unitRow i t.val 1) (k0_off1_row i t 1)) $$ [H2 H9 H13]
    · isplitl [H2]; · iexact H2
      isplitl [H9]; · iexact H9
      iexact H13
    iintro %f ⟨Hfl, Hb⟩
    iapply (wp_awaitAll (A := arg6) (R := arg4) (t := t') (s := 1) rfl rfl rfl rfl) $$ [Hbt Ho]
    · isplitl []; · iexact Hmw
      isplitl [Hbt]; · iexact Hbt
      iexact Ho
    iintro ⟨H6, Hd, H11, Ho⟩
    iapply (tile_seq (t6_loop d i arg2 harg2 arg3 harg3 arg4 harg4 arg5 harg5 arg6 harg6 arg7 harg7 arg8 harg8 arg9 harg9 arg10 arg11 arg12 arg13 (hwf _ (unitRow_lt i t' 1)))) $$ [H6 H8]
    · isplitl [H6]; · iexact H6
      iexact H8
    iintro %_ ⟨H6, H8⟩
    iapply (wp_rows d i (M := arg3) (r := unitRow i t.val 1) (k0_off1_row i t 1)) $$ [Hfl H3 H8 H12 Ho]
    · isplitl []; · iexact Hmw
      isplitl [Hfl]; · iexact Hfl
      isplitl [H3]; · iexact H3
      isplitl [H8]; · iexists _; iexact H8
      isplitl [H12]; · iexact H12
      iexact Ho
    iintro ⟨⟨H9, Hr⟩, H3, H8, H12, H13, Ho⟩
    ihave H2 := Hb $$ Hr
    iapply owned_ret
    unfold done
    iframe
    ipureintro; rfl

theorem part27_run {X : S448x5376.Idx → F .f32} {J : S448x5376.Idx → BitVec 32} {t : Fin k0_t3_loop.trips}
    (hwf : ∀ r < 448, Wf (baseOf r) (rowAt (F := F) (e := .i32) J r)) {v1 v218 : BitVec 32} {v3 : IVec S16 32} :
    (iprop(owns (thrOf d i) arg6 fullShare (fun _ => zero)
        ∗ owns (thrOf d i) arg8 fullShare (fun x => rowAt (F := F) (e := .i32) J (unitRow i t.val 1) (x 0).val)
        ∗ owns (thrOf d i) arg9 fullShare (fun x => rowAt (F := F) (e := .f32) X (unitRow i t.val 1) (x 0).val)) : sProp 𝕄)
      ⊢ tileWp d i (k0_part27 (F := F) i arg2 harg2 arg3 harg3 arg4 harg4 arg5 harg5 arg6 harg6 arg7 harg7 arg8 harg8 arg9 harg9 arg10 arg11 arg12 arg13
          v1 v3 k0_pay100 k0_pay101 k0_pay102 k0_pay103 k0_pay104 k0_pay105 k0_pay106 k0_pay107 k0_pay108 k0_pay109 k0_pay110 k0_pay111 v218 (Scalar.addi (Scalar.muli 112#32 (wordD i t 1#32)) (Scalar.muli 2#32 (wordH i t 1#32))) 56#32)
        (fun _ => (iprop(owns (thrOf d i) arg6 fullShare (slabOf X J (unitRow i t.val 1))
          ∗ owns (thrOf d i) arg8 fullShare (ibufAt (baseOf (unitRow i t.val 1)) (rowAt (F := F) (e := .i32) J (unitRow i t.val 1)) 5376)
          ∗ owns (thrOf d i) arg9 fullShare (fun x => rowAt (F := F) (e := .f32) X (unitRow i t.val 1) (x 0).val)) : sProp 𝕄)) := by
  simp only [k0_part27_eq_skeleton]; unfold k0_part27_skel
  simp only [Prog.lift, Prog.bind_op, Prog.bind_ret, Prog.pure_eq_ret, Prog.bind_assoc]
  iintro ⟨H6, H8, H9⟩
  iapply (tile_seq (t7_loop d i arg2 harg2 arg3 harg3 arg4 harg4 arg5 harg5 arg6 harg6 arg7 harg7 arg8 harg8 arg9 harg9 arg10 arg11 arg12 arg13 (hwf _ (unitRow_lt i t 1)) (baseOf_lt _)
    (wordBase_toNat i t 1))) $$ [H6 H8 H9]
  · isplitl [H6]; · iexact H6
    isplitl [H8]; · iexact H8
    iexact H9
  iintro %_ ⟨H6, H8, H9⟩
  iapply owned_ret
  isplitl [H6]; · iexact H6
  isplitl [H8]; · iexact H8
  iexact H9

end Slots

end Cert.Proof.Unpool

end
-- ==== Proof.Trip.lean ====
/- A trip over both slots, the loop of trips, and the tile's whole body. -/
module

public import proofs.«01_k».proof.Proof.Slot

@[expose] public section

noncomputable section

namespace Cert.Proof.Unpool

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers
open Idealize.ShloMosaic.Tactic

variable {F : FTy → Type}

local notation "𝕄" => MT nD τ sig (HIx 1) (Elt F) ℕ UU ℕ

variable [FloatOps F]

/-! ## The trips' bookkeeping -/

/-- The trip before the `n`-th, if there was one. -/
def prev (n : ℕ) : Option (Fin k0_t3_loop.trips) := if h : 0 < n ∧ n ≤ k0_t3_loop.trips then some ⟨n - 1, by omega⟩ else none

theorem prev_zero : prev 0 = none := rfl
theorem prev_succ (t : Fin k0_t3_loop.trips) : prev (t.val + 1) = some t := by
  unfold prev; rw [dif_pos ⟨by omega, t.isLt⟩]; rfl

theorem prev_cases (t : Fin k0_t3_loop.trips) : (prev t.val = none ∧ ¬ 0 < t.val) ∨ (∃ t', prev t.val = some t' ∧ 0 < t.val) := by
  by_cases h : 0 < t.val
  · refine Or.inr ⟨⟨t.val - 1, by omega⟩, ?_, h⟩
    unfold prev; rw [dif_pos ⟨h, t.isLt.le⟩]
  · refine Or.inl ⟨?_, h⟩
    unfold prev; rw [dif_neg fun hh => h hh.1]

/-- The blocks of the trips from `n` on, not yet written. -/
def pends (d : Dev nD) (i : grid0.Coords) (R : Memref sig .scVector .hbm S2x16x56x56x192 .f32) (n : ℕ) : sProp 𝕄 :=
  bigSep (Finset.univ.filter fun t : Fin k0_t3_loop.trips => n ≤ t.val) fun t => iprop(pend (F := F) d i R t 0 ∗ pend (F := F) d i R t 1)

/-- The blocks of the trips whose copies have landed when `n` trips are made. -/
def dones (d : Dev nD) (i : grid0.Coords) (R : Memref sig .scVector .hbm S2x16x56x56x192 .f32) (X : S448x5376.Idx → F .f32) (J : S448x5376.Idx → BitVec 32)
    (n : ℕ) : sProp 𝕄 :=
  bigSep (Finset.univ.filter fun t : Fin k0_t3_loop.trips => t.val + 1 < n) fun t => iprop(done (F := F) d i R X J t 0 ∗ done (F := F) d i R X J t 1)

theorem pends_zero (d : Dev nD) (i : grid0.Coords) (R : Memref sig .scVector .hbm S2x16x56x56x192 .f32) :
    pends (F := F) d i R 0 = bigSep Finset.univ fun t => iprop(pend (F := F) d i R t 0 ∗ pend (F := F) d i R t 1) := by
  unfold pends; rw [Finset.filter_true_of_mem fun _ _ => Nat.zero_le _]

theorem pends_step (d : Dev nD) (i : grid0.Coords) (R : Memref sig .scVector .hbm S2x16x56x56x192 .f32) (t : Fin k0_t3_loop.trips) :
    pends (F := F) d i R t.val = iprop((pend (F := F) d i R t 0 ∗ pend (F := F) d i R t 1) ∗ pends (F := F) d i R (t.val + 1)) := by
  unfold pends
  have h : (Finset.univ.filter fun u : Fin k0_t3_loop.trips => t.val ≤ u.val) = insert t (Finset.univ.filter fun u : Fin k0_t3_loop.trips => t.val + 1 ≤ u.val) := by
    ext u
    simp only [Finset.mem_filter, Finset.mem_univ, true_and, Finset.mem_insert, Fin.ext_iff]
    omega
  rw [h, BI.bigSep_insert (by simp)]; rfl

theorem dones_zero (d : Dev nD) (i : grid0.Coords) (R : Memref sig .scVector .hbm S2x16x56x56x192 .f32) (X : S448x5376.Idx → F .f32) (J : S448x5376.Idx → BitVec 32) :
    dones (F := F) d i R X J 0 = iprop(emp) := by
  unfold dones; rw [Finset.filter_false_of_mem fun _ _ => by omega]; rfl

theorem dones_succ (d : Dev nD) (i : grid0.Coords) (R : Memref sig .scVector .hbm S2x16x56x56x192 .f32) (X : S448x5376.Idx → F .f32) (J : S448x5376.Idx → BitVec 32)
    (t : Fin k0_t3_loop.trips) :
    dones (F := F) d i R X J (t.val + 2) = iprop((done (F := F) d i R X J t 0 ∗ done (F := F) d i R X J t 1) ∗ dones (F := F) d i R X J (t.val + 1)) := by
  unfold dones
  have h : (Finset.univ.filter fun u : Fin k0_t3_loop.trips => u.val + 1 < t.val + 2) = insert t (Finset.univ.filter fun u : Fin k0_t3_loop.trips => u.val + 1 < t.val + 1) := by
    ext u
    simp only [Finset.mem_filter, Finset.mem_univ, true_and, Finset.mem_insert, Fin.ext_iff]
    omega
  rw [h, BI.bigSep_insert (by simp)]; rfl

theorem dones_step (d : Dev nD) (i : grid0.Coords) (R : Memref sig .scVector .hbm S2x16x56x56x192 .f32) (X : S448x5376.Idx → F .f32) (J : S448x5376.Idx → BitVec 32)
    (t : Fin k0_t3_loop.trips) :
    (iprop(dones (F := F) d i R X J t.val ∗ doneIf d i R X J 0 (prev t.val) ∗ doneIf d i R X J 1 (prev t.val)) : sProp 𝕄)
      ⊢ dones (F := F) d i R X J (t.val + 1) := by
  by_cases h : 0 < t.val
  · have e : t.val = (⟨t.val - 1, by omega⟩ : Fin k0_t3_loop.trips).val + 1 := by show t.val = t.val - 1 + 1; omega
    rw [e, prev_succ, dones_succ]
    iintro ⟨H, H0, H1⟩
    unfold doneIf
    iframe
  · have e : t.val = 0 := by omega
    have e' : dones (F := F) d i R X J (0 + 1) = iprop(emp) := by
      unfold dones; rw [Finset.filter_false_of_mem fun _ _ => by omega]; rfl
    rw [e, e']
    iintro _
    iempintro

theorem dones_all (d : Dev nD) (i : grid0.Coords) (R : Memref sig .scVector .hbm S2x16x56x56x192 .f32) (X : S448x5376.Idx → F .f32) (J : S448x5376.Idx → BitVec 32) :
    dones (F := F) d i R X J 8 = bigSep Finset.univ fun t => iprop(done (F := F) d i R X J t 0 ∗ done (F := F) d i R X J t 1) := by
  unfold dones; rw [Finset.filter_true_of_mem fun t _ => by have := t.isLt; have e : k0_t3_loop.trips = 7 := by decide
                                                            omega]

section Trip
variable (d : Dev nD) (i : grid0.Coords) (arg2 : Memref sig .scVector .hbm S448x5376 .f32) (harg2 : arg2.IsWhole)
  (arg3 : Memref sig .scVector .hbm S448x5376 .i32) (harg3 : arg3.IsWhole) (arg4 : Memref sig .scVector .hbm S2x16x56x56x192 .f32) (harg4 : arg4.IsWhole)
  (arg5 : Memref sig .scVector .vmem S224x192 .f32) (harg5 : arg5.IsWhole) (arg6 : Memref sig .scVector .vmem S224x192 .f32) (harg6 : arg6.IsWhole)
  (arg7 : Memref sig .scVector .vmem S5376 .i32) (harg7 : arg7.IsWhole) (arg8 : Memref sig .scVector .vmem S5376 .i32) (harg8 : arg8.IsWhole)
  (arg9 : Memref sig .scVector .vmem S5376 .f32) (harg9 : arg9.IsWhole) (arg10 arg11 arg12 arg13 : DmaSems sig S_)

theorem part28_run {X : S448x5376.Idx → F .f32} {J : S448x5376.Idx → BitVec 32} {q : PosShare TreeShare} {t : Fin k0_t3_loop.trips}
    {O : CellTallies nD τ sig (HIx 1)} {W : Waits sig (HIx 1)} {p : Option (Fin k0_t3_loop.trips)} {v3 : IVec S16 32}
    (hwf : ∀ r < 448, Wf (baseOf r) (rowAt (F := F) (e := .i32) J r))
    (hp : (p = none ∧ ¬ 0 < t.val) ∨ (∃ t', p = some t' ∧ 0 < t.val)) :
    (iprop(MayWaits (thrOf d i) none O ∗ owns (thrOf d i) arg2 q X ∗ owns (thrOf d i) arg3 q J
        ∗ slotSt d i arg5 arg7 arg4 arg10.sem X J 0 p ∗ slotSt d i arg6 arg8 arg4 arg11.sem X J 1 p ∗ (∃ Z, owns (thrOf d i) arg9 fullShare Z)
        ∗ semVal (thrOf d i, .dma arg12.sem) 0 ∗ semVal (thrOf d i, .dma arg13.sem) 0 ∗ owed d i O W
        ∗ pend (F := F) d i arg4 t 0 ∗ pend (F := F) d i arg4 t 1) : sProp 𝕄)
      ⊢ tileWp d i (k0_part28 (F := F) i arg2 harg2 arg3 harg3 arg4 harg4 arg5 harg5 arg6 harg6 arg7 harg7 arg8 harg8 arg9 harg9 arg10 arg11 arg12 arg13 (wordTile i) k0_pay99 v3 k0_pay100 k0_pay101 k0_pay102 k0_pay103 k0_pay104 k0_pay105 k0_pay106 k0_pay107 k0_pay108 k0_pay109 k0_pay110 k0_pay111 0#32 1#32 t)
        (fun _ => (iprop(owns (thrOf d i) arg2 q X ∗ owns (thrOf d i) arg3 q J
          ∗ slotSt d i arg5 arg7 arg4 arg10.sem X J 0 (some t) ∗ slotSt d i arg6 arg8 arg4 arg11.sem X J 1 (some t)
          ∗ (∃ Z, owns (thrOf d i) arg9 fullShare Z)
          ∗ semVal (thrOf d i, .dma arg12.sem) 0 ∗ semVal (thrOf d i, .dma arg13.sem) 0 ∗ owed d i O W
          ∗ doneIf d i arg4 X J 0 p ∗ doneIf d i arg4 X J 1 p) : sProp 𝕄)) := by
  simp only [k0_part28_eq_skeleton]; unfold k0_part28_skel
  simp only [Prog.lift, Prog.bind_op, Prog.bind_ret, Prog.pure_eq_ret, Prog.bind_assoc]
  iintro ⟨#Hmw, H2, H3, Hs0, Hs1, H9, H12, H13, Ho, Hp0, Hp1⟩
  iapply (tile_seq (part23_run d i arg2 harg2 arg3 harg3 arg4 harg4 arg5 harg5 arg6 harg6 arg7 harg7 arg8 harg8 arg9 harg9 arg10 arg11 arg12 arg13 (X := X) (J := J) (q := q) (O := O) (W := W) (t := t) (p := p) hwf (by rw [k0_cond1_iff]; exact hp)))
    $$ [H2 H3 Hs0 H9 H12 H13 Ho]
  · isplitl []; · iexact Hmw
    iframe
  iintro %r ⟨%hr, H2, H3, H5, H7, H9, H10, H12, H13, Ho, Hd0⟩
  subst hr
  iapply (tile_seq (part24_run d i arg2 harg2 arg3 harg3 arg4 harg4 arg5 harg5 arg6 harg6 arg7 harg7 arg8 harg8 arg9 harg9 arg10 arg11 arg12 arg13 (X := X) (J := J) (t := t) (v3 := v3) hwf)) $$ [H5 H7 H9]
  · iframe
  iintro %_ ⟨H5, H7, H9⟩
  iapply (tile_seq (part25_run d i arg2 harg2 arg3 harg3 arg4 harg4 arg5 harg5 arg6 harg6 arg7 harg7 arg8 harg8 arg9 harg9 arg10 arg11 arg12 arg13 (X := X) (J := J) (t := t))) $$ [H5 Hp0 H10 H7]
  · iframe
  iintro %_ Hs0
  iapply (tile_seq (part26_run d i arg2 harg2 arg3 harg3 arg4 harg4 arg5 harg5 arg6 harg6 arg7 harg7 arg8 harg8 arg9 harg9 arg10 arg11 arg12 arg13 (X := X) (J := J) (q := q) (O := O) (W := W) (t := t) (p := p) hwf (by rw [k0_cond2_iff]; exact hp)))
    $$ [H2 H3 Hs1 H9 H12 H13 Ho]
  · isplitl []; · iexact Hmw
    iframe
    iexists _; iexact H9
  iintro %r ⟨%hr, H2, H3, H6, H8, H9, H11, H12, H13, Ho, Hd1⟩
  subst hr
  iapply (tile_seq (part27_run d i arg2 harg2 arg3 harg3 arg4 harg4 arg5 harg5 arg6 harg6 arg7 harg7 arg8 harg8 arg9 harg9 arg10 arg11 arg12 arg13 (X := X) (J := J) (t := t) (v3 := v3) hwf)) $$ [H6 H8 H9]
  · iframe
  iintro %_ ⟨H6, H8, H9⟩
  iapply (wp_sendAll (A := arg6) (R := arg4) (t := t) (s := 1) rfl rfl rfl rfl rfl rfl rfl rfl) $$ [H6 Hp1 H11]
  · isplitl [H6]; · iexact H6
    isplitl [Hp1]; · iexact Hp1
    iexact H11
  iintro Hb
  iapply owned_ret
  isplitl [H2]; · iexact H2
  isplitl [H3]; · iexact H3
  isplitl [Hs0]; · iexact Hs0
  isplitl [Hb H8]
  · unfold slotSt
    isplitl [Hb]; · iexact Hb
    iexact H8
  isplitl [H9]; · iexists _; iexact H9
  iframe

/-- What the loop of trips keeps: the operands, the slots as the trip before left them, the fetches'
    buffer and semaphores, and the blocks to write and written. -/
def tripInv (d : Dev nD) (i : grid0.Coords) (arg2 : Memref sig .scVector .hbm S448x5376 .f32) (arg3 : Memref sig .scVector .hbm S448x5376 .i32)
    (arg4 : Memref sig .scVector .hbm S2x16x56x56x192 .f32) (arg5 arg6 : Memref sig .scVector .vmem S224x192 .f32)
    (arg7 arg8 : Memref sig .scVector .vmem S5376 .i32) (arg9 : Memref sig .scVector .vmem S5376 .f32) (arg10 arg11 arg12 arg13 : DmaSems sig S_)
    (q : PosShare TreeShare) (X : S448x5376.Idx → F .f32) (J : S448x5376.Idx → BitVec 32) (O : CellTallies nD τ sig (HIx 1)) (W : Waits sig (HIx 1))
    (n : ℕ) : sProp 𝕄 :=
  iprop(MayWaits (thrOf d i) none O ∗ owns (thrOf d i) arg2 q X ∗ owns (thrOf d i) arg3 q J
    ∗ slotSt d i arg5 arg7 arg4 arg10.sem X J 0 (prev n) ∗ slotSt d i arg6 arg8 arg4 arg11.sem X J 1 (prev n) ∗ (∃ Z, owns (thrOf d i) arg9 fullShare Z)
    ∗ semVal (thrOf d i, .dma arg12.sem) 0 ∗ semVal (thrOf d i, .dma arg13.sem) 0 ∗ owed d i O W
    ∗ pends (F := F) d i arg4 n ∗ dones (F := F) d i arg4 X J n)

theorem t3_trip {X : S448x5376.Idx → F .f32} {J : S448x5376.Idx → BitVec 32} {q : PosShare TreeShare}
    {O : CellTallies nD τ sig (HIx 1)} {W : Waits sig (HIx 1)} {v3 : IVec S16 32}
    (hwf : ∀ r < 448, Wf (baseOf r) (rowAt (F := F) (e := .i32) J r)) (t : Fin k0_t3_loop.trips) (acc : Unit) :
    tripInv d i arg2 arg3 arg4 arg5 arg6 arg7 arg8 arg9 arg10 arg11 arg12 arg13 q X J O W t.val
      ⊢ tileWp d i (k0_t3_body (F := F) i arg2 harg2 arg3 harg3 arg4 harg4 arg5 harg5 arg6 harg6 arg7 harg7 arg8 harg8 arg9 harg9 arg10 arg11 arg12 arg13 (wordTile i) k0_pay99 v3 k0_pay100 k0_pay101 k0_pay102 k0_pay103 k0_pay104 k0_pay105 k0_pay106 k0_pay107 k0_pay108 k0_pay109 k0_pay110 k0_pay111 0#32 1#32 t acc)
        (fun _ => tripInv d i arg2 arg3 arg4 arg5 arg6 arg7 arg8 arg9 arg10 arg11 arg12 arg13 q X J O W (t.val + 1)) := by
  unfold k0_t3_body tripInv
  rw [pends_step, prev_succ]
  iintro ⟨#Hmw, H2, H3, Hs0, Hs1, H9, H12, H13, Ho, ⟨⟨Hp0, Hp1⟩, Hp⟩, Hd⟩
  iapply (tile_seq (part28_run d i arg2 harg2 arg3 harg3 arg4 harg4 arg5 harg5 arg6 harg6 arg7 harg7 arg8 harg8 arg9 harg9 arg10 arg11 arg12 arg13 (X := X) (J := J) (q := q) (O := O) (W := W) (t := t) (p := prev t.val) (v3 := v3) hwf (prev_cases t)))
    $$ [H2 H3 Hs0 Hs1 H9 H12 H13 Ho Hp0 Hp1]
  · isplitl []; · iexact Hmw
    iframe
  iintro %_ ⟨H2, H3, Hs0, Hs1, H9, H12, H13, Ho, Hd0, Hd1⟩
  ihave Hd := (dones_step d i arg4 X J t) $$ [Hd Hd0 Hd1]
  · iframe
  iapply owned_ret
  isplitl []; · iexact Hmw
  iframe

theorem body_run {X : S448x5376.Idx → F .f32} {J : S448x5376.Idx → BitVec 32} {q : PosShare TreeShare}
    {O : CellTallies nD τ sig (HIx 1)} {W : Waits sig (HIx 1)}
    (hwf : ∀ r < 448, Wf (baseOf r) (rowAt (F := F) (e := .i32) J r)) :
    (iprop(MayWaits (thrOf d i) none O ∗ owns (thrOf d i) arg2 q X ∗ owns (thrOf d i) arg3 q J
        ∗ (∃ Z, owns (thrOf d i) arg5 fullShare Z) ∗ (∃ Z, owns (thrOf d i) arg6 fullShare Z) ∗ (∃ Z, owns (thrOf d i) arg7 fullShare Z)
        ∗ (∃ Z, owns (thrOf d i) arg8 fullShare Z) ∗ (∃ Z, owns (thrOf d i) arg9 fullShare Z)
        ∗ semVal (thrOf d i, .dma arg10.sem) 0 ∗ semVal (thrOf d i, .dma arg11.sem) 0
        ∗ semVal (thrOf d i, .dma arg12.sem) 0 ∗ semVal (thrOf d i, .dma arg13.sem) 0 ∗ owed d i O W
        ∗ bigSep Finset.univ fun t => iprop(pend (F := F) d i arg4 t 0 ∗ pend (F := F) d i arg4 t 1)) : sProp 𝕄)
      ⊢ tileWp d i (cc0__sc_unpool_body (F := F) i arg2 harg2 arg3 harg3 arg4 harg4 arg5 harg5 arg6 harg6 arg7 harg7 arg8 harg8 arg9 harg9 arg10 arg11 arg12 arg13)
        (fun _ => (iprop(owns (thrOf d i) arg2 q X ∗ owns (thrOf d i) arg3 q J
          ∗ (∃ Z, owns (thrOf d i) arg5 fullShare Z) ∗ (∃ Z, owns (thrOf d i) arg6 fullShare Z) ∗ (∃ Z, owns (thrOf d i) arg7 fullShare Z)
          ∗ (∃ Z, owns (thrOf d i) arg8 fullShare Z) ∗ (∃ Z, owns (thrOf d i) arg9 fullShare Z)
          ∗ semVal (thrOf d i, .dma arg10.sem) 0 ∗ semVal (thrOf d i, .dma arg11.sem) 0
          ∗ semVal (thrOf d i, .dma arg12.sem) 0 ∗ semVal (thrOf d i, .dma arg13.sem) 0 ∗ owed d i O W
          ∗ bigSep Finset.univ fun t => iprop(done (F := F) d i arg4 X J t 0 ∗ done (F := F) d i arg4 X J t 1)) : sProp 𝕄)) := by
  simp only [cc0__sc_unpool_body_eq_skeleton]; unfold cc0__sc_unpool_body_skel
  simp only [k0_part29_eq_skeleton, k0_part30_eq_skeleton, k0_part31_eq_skeleton, k0_part32_eq_skeleton]
  unfold k0_part29_skel k0_part30_skel k0_part31_skel k0_part32_skel
  simp only [Prog.lift, Prog.bind_op, Prog.bind_ret, Prog.pure_eq_ret, Prog.bind_assoc]
  iintro ⟨#Hmw, H2, H3, ⟨%Z5, H5⟩, ⟨%Z6, H6⟩, H7, H8, H9, H10, H11, H12, H13, Ho, Hp⟩
  iapply (tile_seq (t1_loop d i arg2 harg2 arg3 harg3 arg4 harg4 arg5 harg5 arg6 harg6 arg7 harg7 arg8 harg8 arg9 harg9 arg10 arg11 arg12 arg13 (g := Z5))) $$ [H5]
  · iexact H5
  iintro %_ H5
  iapply (tile_seq (t2_loop d i arg2 harg2 arg3 harg3 arg4 harg4 arg5 harg5 arg6 harg6 arg7 harg7 arg8 harg8 arg9 harg9 arg10 arg11 arg12 arg13 (g := Z6))) $$ [H6]
  · iexact H6
  iintro %_ H6
  have e7 : k0_t3_loop.trips = 7 := by decide
  iapply (Scf.wp_for_bind (E := TpuEff nD τ sig (Elt F) Λ₀ (.scVector ((i 0).castLE hcore0) ((i 1).castLE hsub0))) frame (wpE (defs₀ (F := F)) 𝒱₀ (thrOf d i) none) Set.univ _ _ _ _ _ _
    (fun n _ => tripInv d i arg2 arg3 arg4 arg5 arg6 arg7 arg8 arg9 arg10 arg11 arg12 arg13 q X J O W n)
    fun t acc => t3_trip d i arg2 harg2 arg3 harg3 arg4 harg4 arg5 harg5 arg6 harg6 arg7 harg7 arg8 harg8 arg9 harg9 arg10 arg11 arg12 arg13 hwf t acc) $$ [H2 H3 H5 H6 H7 H8 H9 H10 H11 H12 H13 Ho Hp]
  · unfold tripInv
    rw [pends_zero, dones_zero, prev_zero]
    simp only [slotSt]
    isplitl []; · iexact Hmw
    iframe
  iintro %_ HI
  have e : tripInv d i arg2 arg3 arg4 arg5 arg6 arg7 arg8 arg9 arg10 arg11 arg12 arg13 q X J O W 7
      ⊢ iprop(MayWaits (thrOf d i) none O ∗ owns (thrOf d i) arg2 q X ∗ owns (thrOf d i) arg3 q J
    ∗ slotSt d i arg5 arg7 arg4 arg10.sem X J 0 (some ⟨6, by decide⟩) ∗ slotSt d i arg6 arg8 arg4 arg11.sem X J 1 (some ⟨6, by decide⟩) ∗ (∃ Z, owns (thrOf d i) arg9 fullShare Z)
    ∗ semVal (thrOf d i, .dma arg12.sem) 0 ∗ semVal (thrOf d i, .dma arg13.sem) 0 ∗ owed d i O W
    ∗ dones (F := F) d i arg4 X J (6 + 1)) := by
    have ep : prev 7 = some ⟨6, by decide⟩ := prev_succ ⟨6, by decide⟩
    unfold tripInv
    rw [ep]
    iintro ⟨Hmw, H2, H3, Hs0, Hs1, H9, H12, H13, Ho, Hp, Hd⟩
    iframe
  ihave HI := ((Entails.of_eq (congrArg (tripInv d i arg2 arg3 arg4 arg5 arg6 arg7 arg8 arg9 arg10 arg11 arg12 arg13 q X J O W) e7)).trans e) $$ HI
  icases HI with ⟨_, H2, H3, Hs0, Hs1, H9, H12, H13, Ho, Hd⟩
  simp only [slotSt]
  icases Hs0 with ⟨Hb0, H7⟩
  icases Hs1 with ⟨Hb1, H8⟩
  iapply (wp_awaitAll (A := arg5) (R := arg4) (t := ⟨6, by decide⟩) (s := 0) rfl rfl rfl rfl) $$ [Hb0 Ho]
  · isplitl []; · iexact Hmw
    isplitl [Hb0]; · iexact Hb0
    iexact Ho
  iintro ⟨H5, Hd0, H10, Ho⟩
  iapply (wp_awaitAll (A := arg6) (R := arg4) (t := ⟨6, by decide⟩) (s := 1) rfl rfl rfl rfl) $$ [Hb1 Ho]
  · isplitl []; · iexact Hmw
    isplitl [Hb1]; · iexact Hb1
    iexact Ho
  iintro ⟨H6, Hd1, H11, Ho⟩
  iapply owned_ret
  rw [← dones_all d i arg4 X J, dones_succ d i arg4 X J ⟨6, by decide⟩]
  unfold done
  isplitl [H2]; · iexact H2
  isplitl [H3]; · iexact H3
  isplitl [H5]; · iexists _; iexact H5
  isplitl [H6]; · iexists _; iexact H6
  isplitl [H7]; · iexists _; iexact H7
  isplitl [H8]; · iexists _; iexact H8
  isplitl [H9]; · iexact H9
  isplitl [H10]; · iexact H10
  isplitl [H11]; · iexact H11
  isplitl [H12]; · iexact H12
  isplitl [H13]; · iexact H13
  isplitl [Ho]; · iexact Ho
  isplitr [Hd]
  · isplitl [Hd0]; · iexact Hd0
    iexact Hd1
  iexact Hd

end Trip

end Cert.Proof.Unpool

end
-- ==== Proof.Blocks.lean ====
/- The result as the tiles' blocks: which block an element lies in, the array dealt over cores, tiles,
   trips, slots and windows, and the whole result's contents put together from the blocks'. -/
module

public import proofs.«01_k».proof.Proof.Trip

@[expose] public section

noncomputable section

namespace Cert.Proof.Unpool

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers
open Idealize.ShloMosaic.Tactic

variable {F : FTy → Type}

local notation "𝕄" => MT nD τ sig (HIx 1) (Elt F) ℕ UU ℕ

/-! ## Where an element of the result lies -/

/-- The row (batch, depth, height) whose windows hold the element. -/
def rowIx (y : S2x16x56x56x192.Idx) : ℕ := (y 0).val * 224 + (y 1).val / 2 * 28 + (y 2).val / 2
/-- Which of its row's four blocks the element is in. -/
def winIx (y : S2x16x56x56x192.Idx) : ℕ := (y 1).val % 2 * 2 + (y 2).val % 2

theorem y_bounds (y : S2x16x56x56x192.Idx) :
    (y 0).val < 2 ∧ (y 1).val < 16 ∧ (y 2).val < 56 ∧ (y 3).val < 56 ∧ (y 4).val < 192 :=
  ⟨(y 0).isLt, (y 1).isLt, (y 2).isLt, (y 3).isLt, (y 4).isLt⟩

theorem rowIx_lt (y : S2x16x56x56x192.Idx) : rowIx y < 448 := by
  obtain ⟨h0, h1, h2, h3, h4⟩ := y_bounds y; unfold rowIx; omega
theorem winIx_lt (y : S2x16x56x56x192.Idx) : winIx y < 4 := by unfold winIx; omega

/-- The element's place in its row's slab. -/
def slabIx (y : S2x16x56x56x192.Idx) : S224x192.Idx :=
  ix2 ⟨winIx y * 56 + (y 3).val, by have := winIx_lt y; have := (y_bounds y).2.2.2.1; omega⟩ ⟨(y 4).val, (y_bounds y).2.2.2.2⟩

/-- The output array as the TensorCore names it. -/
abbrev outLoc (d : Dev nD) : Loc nD τ sig := (SparseCore.T d).loc main_v4
abbrev outV : Memref sig .scVector .hbm S2x16x56x56x192 .f32 := Memref.whole main_v4_scv

theorem set_blk (i : grid0.Coords) (t : Fin k0_t3_loop.trips) (s : Fin 2) (j : Fin 4) :
    (blkOf outV i t s j).view.set
      = (Rect.unit (s := S2x16x56x56x192) (k0_off16 i t (BitVec.ofNat 32 s.val) (BitVec.ofNat 32 (j.val / 2)) (BitVec.ofNat 32 (j.val % 2)))
          S1x1x1x56x192.size (k0_off16_inb i t s ⟨j.val / 2, by have := j.isLt; omega⟩ ⟨j.val % 2, by omega⟩)).set := by
  show (((View.whole (main_v4_scv : Ref sig .scVector)).slice (Rect.unit (s := S2x16x56x56x192) (k0_off16 i t (BitVec.ofNat 32 s.val) (BitVec.ofNat 32 (j.val / 2)) (BitVec.ofNat 32 (j.val % 2)))
          S1x1x1x56x192.size (k0_off16_inb i t s ⟨j.val / 2, by have := j.isLt; omega⟩ ⟨j.val % 2, by omega⟩))).reshape S56x192 squeezes_S1x1x1x56x192_S56x192.numel_eq).set = _
  rw [View.set_reshape, View.set_slice]
  exact Finset.map_refl

theorem mem_blk (i : grid0.Coords) (t : Fin k0_t3_loop.trips) (s : Fin 2) (j : Fin 4) (y : S2x16x56x56x192.Idx) :
    y ∈ (blkOf outV i t s j).view.set ↔ rowIx y = unitRow i t.val s.val ∧ winIx y = j.val := by
  have e := k0_off16_eq i t s ⟨j.val / 2, by have := j.isLt; omega⟩ ⟨j.val % 2, by omega⟩
  have hr := unitRow_lt i t s
  obtain ⟨h0, h1, h2, h3, h4⟩ := y_bounds y
  have hj := j.isLt
  rw [set_blk, Rect.mem_set_unit]
  simp only at e
  rw [e]
  unfold rowIx winIx
  generalize unitRow i t.val s.val = r at hr ⊢
  constructor
  · intro h
    have a0 : r / 224 ≤ (y 0).val ∧ (y 0).val < r / 224 + 1 := h 0
    have a1 : 2 * (r % 224 / 28) + j.val / 2 ≤ (y 1).val ∧ (y 1).val < 2 * (r % 224 / 28) + j.val / 2 + 1 := h 1
    have a2 : 2 * (r % 28) + j.val % 2 ≤ (y 2).val ∧ (y 2).val < 2 * (r % 28) + j.val % 2 + 1 := h 2
    omega
  · rintro ⟨h, h'⟩ a
    match a with
    | 0 => show r / 224 ≤ (y 0).val ∧ (y 0).val < r / 224 + 1; omega
    | 1 => show 2 * (r % 224 / 28) + j.val / 2 ≤ (y 1).val ∧ (y 1).val < 2 * (r % 224 / 28) + j.val / 2 + 1; omega
    | 2 => show 2 * (r % 28) + j.val % 2 ≤ (y 2).val ∧ (y 2).val < 2 * (r % 28) + j.val % 2 + 1; omega
    | 3 => exact ⟨Nat.zero_le _, by show (y 3).val < 0 + 56; omega⟩
    | 4 => exact ⟨Nat.zero_le _, by show (y 4).val < 0 + 192; omega⟩

theorem unsqueeze_blk (x : S56x192.Idx) :
    Shape.reshapeEquiv squeezes_S1x1x1x56x192_S56x192.numel_eq x
      = (ix5 (⟨0, Nat.one_pos⟩ : Fin 1) (⟨0, Nat.one_pos⟩ : Fin 1) (⟨0, Nat.one_pos⟩ : Fin 1) (x 0) (x 1) : S1x1x1x56x192.Idx) :=
  Shape.reshapeEquiv_eq_of_rowMajor _ (by
    rw [Shape.rowMajor_val_two, Shape.rowMajor_val_five]
    show (((0 * 1 + 0) * 1 + 0) * 56 + (x 0).val) * 192 + (x 1).val = (x 0).val * 192 + (x 1).val
    omega)

/-- A block's contents at an element of it. -/
theorem blk_read (i : grid0.Coords) (t : Fin k0_t3_loop.trips) (s : Fin 2) (j : Fin 4) (f : S2x16x56x56x192.Idx → Elt F .f32) (y : S2x16x56x56x192.Idx)
    (hy : y ∈ (blkOf outV i t s j).view.set) :
    (blkOf outV i t s j).view.read (Elt F) f (ix2 ⟨(y 3).val, (y_bounds y).2.2.2.1⟩ ⟨(y 4).val, (y_bounds y).2.2.2.2⟩) = f y := by
  rw [set_blk, Rect.mem_set_unit] at hy
  show f ((Rect.unit (s := S2x16x56x56x192) (k0_off16 i t (BitVec.ofNat 32 s.val) (BitVec.ofNat 32 (j.val / 2)) (BitVec.ofNat 32 (j.val % 2)))
          S1x1x1x56x192.size (k0_off16_inb i t s ⟨j.val / 2, by have := j.isLt; omega⟩ ⟨j.val % 2, by omega⟩)).emb
        (Shape.reshapeEquiv squeezes_S1x1x1x56x192_S56x192.numel_eq (ix2 ⟨(y 3).val, (y_bounds y).2.2.2.1⟩ ⟨(y 4).val, (y_bounds y).2.2.2.2⟩ : S56x192.Idx))) = _
  congr 1
  rw [unsqueeze_blk]
  have e := k0_off16_eq i t s ⟨j.val / 2, by have := j.isLt; omega⟩ ⟨j.val % 2, by omega⟩
  simp only at e
  funext a
  apply Fin.ext
  rw [Rect.emb_apply]
  have hya := hy a
  show k0_off16 i t (BitVec.ofNat 32 s.val) (BitVec.ofNat 32 (j.val / 2)) (BitVec.ofNat 32 (j.val % 2)) a + 1 * _ = _
  have ea := congrFun e a
  rw [ea] at hya ⊢
  match a with
  | 0 => have h : _ ≤ (y 0).val ∧ (y 0).val < _ + 1 := hya
         show _ + 1 * 0 = (y 0).val; omega
  | 1 => have h : _ ≤ (y 1).val ∧ (y 1).val < _ + 1 := hya
         show _ + 1 * 0 = (y 1).val; omega
  | 2 => have h : _ ≤ (y 2).val ∧ (y 2).val < _ + 1 := hya
         show _ + 1 * 0 = (y 2).val; omega
  | 3 => show 0 + 1 * (y 3).val = (y 3).val; omega
  | 4 => show 0 + 1 * (y 4).val = (y 4).val; omega

/-! ## The array dealt by a key -/

theorem split_key {ℓ : Loc nD τ sig} (S : Finset (Idx ℓ)) (q : PosShare TreeShare) (f : Buf (Elt F) ℓ) (n : ℕ) (key : Idx ℓ → ℕ) (hk : ∀ y, key y < n) :
    (ℓ ↦[S]{q} f : sProp 𝕄) = bigSep Finset.univ fun k : Fin n => ℓ ↦[S.filter fun y => key y = k.val]{q} f := by
  rw [← pointsTo_biUnion Finset.univ (ℓ := ℓ) fun k : Fin n => S.filter fun y => key y = k.val]
  · congr 1
    ext y
    simp only [Finset.mem_biUnion, Finset.mem_univ, true_and, Finset.mem_filter]
    exact ⟨fun h => ⟨⟨key y, hk y⟩, h, rfl⟩, fun ⟨_, h, _⟩ => h⟩
  · intro a _ b _ hab
    refine Finset.disjoint_left.mpr fun y h1 h2 => hab (Fin.ext ?_)
    exact (Finset.mem_filter.mp h1).2.symm.trans (Finset.mem_filter.mp h2).2

/-- The elements a SparseCore's tiles write, and those one tile writes. -/
def coreSet (c : ℕ) : Finset S2x16x56x56x192.Idx := Finset.univ.filter fun y => rowIx y % 2 = c
def tileSet (c s : ℕ) : Finset S2x16x56x56x192.Idx := (coreSet c).filter fun y => rowIx y / 2 % 16 = s

theorem out_cores (d : Dev nD) (f : Buf (Elt F) (outLoc d)) :
    (outLoc d ↦{fullShare} f : sProp 𝕄) = bigSep Finset.univ fun c : Fin 2 => outLoc d ↦[coreSet c.val]{fullShare} f :=
  split_key (ℓ := outLoc d) Finset.univ fullShare f 2 (fun y => rowIx y % 2) fun y => Nat.mod_lt _ (by decide)

theorem out_tiles (d : Dev nD) (c : ℕ) (f : Buf (Elt F) (outLoc d)) :
    (outLoc d ↦[coreSet c]{fullShare} f : sProp 𝕄) = bigSep Finset.univ fun s : Fin 16 => outLoc d ↦[tileSet c s.val]{fullShare} f :=
  split_key (ℓ := outLoc d) (coreSet c) fullShare f 16 (fun y => rowIx y / 2 % 16) fun y => Nat.mod_lt _ (by decide)

theorem tile_blk (i : grid0.Coords) (t : Fin k0_t3_loop.trips) (s : Fin 2) (j : Fin 4) :
    ((((tileSet (i 0).val (i 1).val).filter fun y => rowIx y / 64 = t.val).filter fun y => rowIx y / 32 % 2 = s.val).filter fun y => winIx y = j.val)
      = (blkOf outV i t s j).view.set := by
  ext y
  rw [mem_blk]
  unfold tileSet coreSet unitRow
  simp only [Finset.mem_filter, Finset.mem_univ, true_and]
  have h0 : (i 0).val < 2 := (i 0).isLt
  have h1 : (i 1).val < 16 := (i 1).isLt
  have hs := s.isLt
  generalize rowIx y = r
  omega

/-- A tile's part of the array is its trips' blocks. -/
theorem tile_blocks (d : Dev nD) (i : grid0.Coords) (f : Buf (Elt F) (outLoc d)) :
    (outLoc d ↦[tileSet (i 0).val (i 1).val]{fullShare} f : sProp 𝕄)
      = bigSep Finset.univ fun t : Fin k0_t3_loop.trips => bigSep Finset.univ fun s : Fin 2 => bigSep Finset.univ fun j : Fin 4 =>
          outLoc d ↦[(blkOf outV i t s j).view.set]{fullShare} f := by
  rw [split_key (ℓ := outLoc d) (tileSet (i 0).val (i 1).val) fullShare f k0_t3_loop.trips (fun y => rowIx y / 64)
    (fun y => by have := rowIx_lt y; have e : k0_t3_loop.trips = 7 := by decide
                 rw [e]; omega)]
  refine bigSep_congr fun t _ => ?_
  rw [split_key (ℓ := outLoc d) _ fullShare f 2 (fun y => rowIx y / 32 % 2) fun y => Nat.mod_lt _ (by decide)]
  refine bigSep_congr fun s _ => ?_
  rw [split_key (ℓ := outLoc d) _ fullShare f 4 (fun y => winIx y) winIx_lt]
  refine bigSep_congr fun j _ => ?_
  rw [← tile_blk i t s j]; rfl

theorem pend_blk (d : Dev nD) (i : grid0.Coords) (t : Fin k0_t3_loop.trips) (s : Fin 2) (j : Fin 4) (f : Buf (Elt F) (outLoc d)) :
    (outLoc d ↦[(blkOf outV i t s j).view.set]{fullShare} f : sProp 𝕄)
      ⊢ iprop(∃ Z, owns (thrOf d i) (blkOf outV i t s j) fullShare Z) := by
  unfold owns
  iintro H
  iexists (blkOf outV i t s j).view.read (Elt F) f; iexists f
  isplitr; · ipureintro; rfl
  iexact H

theorem tile_pend (d : Dev nD) (i : grid0.Coords) (f : Buf (Elt F) (outLoc d)) :
    (outLoc d ↦[tileSet (i 0).val (i 1).val]{fullShare} f : sProp 𝕄)
      ⊢ bigSep Finset.univ fun t => iprop(pend (F := F) d i outV t 0 ∗ pend (F := F) d i outV t 1) := by
  rw [tile_blocks]
  refine bigSep_mono fun t _ => ?_
  rw [BI.bigSep_fin_two]
  unfold pend
  exact sep_mono (bigSep_mono fun j _ => pend_blk d i t 0 j f) (bigSep_mono fun j _ => pend_blk d i t 1 j f)

variable [FloatOps F]

/-- The whole result: every element the slab of its row makes there. -/
def gOut (X : S448x5376.Idx → F .f32) (J : S448x5376.Idx → BitVec 32) : S2x16x56x56x192.Idx → F .f32 :=
  fun y => slabOf X J (rowIx y) (slabIx y)

theorem done_blk (d : Dev nD) (i : grid0.Coords) (X : S448x5376.Idx → F .f32) (J : S448x5376.Idx → BitVec 32) (t : Fin k0_t3_loop.trips) (s : Fin 2) (j : Fin 4) :
    (owns (thrOf d i) (blkOf outV i t s j) fullShare (winVal (slabOf X J (unitRow i t.val s.val)) j) : sProp 𝕄)
      ⊢ outLoc d ↦[(blkOf outV i t s j).view.set]{fullShare} (gOut X J : Buf (Elt F) (outLoc d)) := by
  unfold owns
  iintro ⟨%f, %hf, H⟩
  have e : ∀ y ∈ (blkOf outV i t s j).view.set, (f : S2x16x56x56x192.Idx → Elt F .f32) y = gOut X J y := by
    intro y hy
    have h := (mem_blk i t s j y).mp hy
    rw [← blk_read (F := F) i t s j f y hy]
    unfold gOut
    rw [h.1]
    refine (congrFun hf _).trans ?_
    unfold winVal
    congr 1
    funext a
    apply Fin.ext
    rw [Rect.emb_apply]
    match a with
    | 0 => show 56 * j.val + 1 * (y 3).val = winIx y * 56 + (y 3).val; rw [h.2]; omega
    | 1 => show 0 + 1 * (y 4).val = (y 4).val; omega
  ihave H := (Entails.of_eq (pointsTo_congr e)) $$ H
  iexact H

theorem tile_done (d : Dev nD) (i : grid0.Coords) (X : S448x5376.Idx → F .f32) (J : S448x5376.Idx → BitVec 32) :
    (bigSep Finset.univ fun t => iprop(done (F := F) d i outV X J t 0 ∗ done (F := F) d i outV X J t 1))
      ⊢ (outLoc d ↦[tileSet (i 0).val (i 1).val]{fullShare} (gOut X J : Buf (Elt F) (outLoc d)) : sProp 𝕄) := by
  rw [tile_blocks]
  refine bigSep_mono fun t _ => ?_
  rw [BI.bigSep_fin_two]
  unfold done
  exact sep_mono (bigSep_mono fun j _ => done_blk d i X J t 0 j) (bigSep_mono fun j _ => done_blk d i X J t 1 j)

end Cert.Proof.Unpool

end
-- ==== Proof.Tile.lean ====
/- The program as the launch theorem sees it: what the call hands to and takes from each SparseCore and
   tile, and the tile's task. -/
module

public import proofs.«01_k».proof.Proof.Blocks

@[expose] public section

noncomputable section

namespace Cert.Proof.Unpool

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers
open Idealize.ShloMosaic.Tactic

variable {F : FTy → Type}

local notation "𝕄" => MT nD τ sig (HIx 1) (Elt F) ℕ UU ℕ

/-! ## The program as the launch theorem sees it -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱 : Variants := 𝒱₀.lift
abbrev v₀ : 𝒱.V := Sum.inl none

theorem nSub_zero : (K (F := F)).nSub 0 = 16 := rfl

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- The handshakes' rounds, the left factor of the ghost state. -/
abbrev EH : Emb UH (MT nD τ sig (HIx 1) (Elt F) ℕ UU ℕ) := embL

/-- The operands as the TensorCore names them. -/
abbrev valLoc (d : Dev nD) : Loc nD τ sig := (SparseCore.T d).loc main_v1
abbrev idxLoc (d : Dev nD) : Loc nD τ sig := (SparseCore.T d).loc main_v3

/-- The share of the operands a SparseCore holds, and a tile's of it. -/
def shareC (c : Fin 2) : PosShare TreeShare := dealOf fullShare Finset.univ c
def shareT (c : Fin 2) (s : Fin 16) : PosShare TreeShare := dealOf (shareC c) Finset.univ s

/-! ## The call's payloads

`X`, `J` and `Z` are what the operands and the result hold at the call, `G` the result's contents after it. -/

section Launch
variable (X : Dev nD → S448x5376.Idx → F .f32) (J : Dev nD → S448x5376.Idx → BitVec 32) (Z : Dev nD → S2x16x56x56x192.Idx → F .f32)

def forCore (G : Dev nD → S2x16x56x56x192.Idx → F .f32) (d : Dev nD) (c : Fin 2) : sProp 𝕄 :=
  iprop((valLoc d ↦{shareC c} (X d : Buf (Elt F) (valLoc d))) ∗ (idxLoc d ↦{shareC c} (J d : Buf (Elt F) (idxLoc d)))
    ∗ outLoc d ↦[coreSet c.val]{fullShare} (G d : Buf (Elt F) (outLoc d)))

def forTile (G : Dev nD → S2x16x56x56x192.Idx → F .f32) (d : Dev nD) (c : Fin 2) (s : Fin 16) : sProp 𝕄 :=
  iprop((valLoc d ↦{shareT c s} (X d : Buf (Elt F) (valLoc d))) ∗ (idxLoc d ↦{shareT c s} (J d : Buf (Elt F) (idxLoc d)))
    ∗ outLoc d ↦[tileSet c.val s.val]{fullShare} (G d : Buf (Elt F) (outLoc d)))

instance forCore_storable (G : Dev nD → S2x16x56x56x192.Idx → F .f32) (d : Dev nD) (c : Fin 2) :
    BI.Storable (upEmb : UEmb _ 𝕄) (forCore X J G d c) := by unfold forCore; infer_instance
instance forTile_storable (G : Dev nD → S2x16x56x56x192.Idx → F .f32) (d : Dev nD) (c : Fin 2) (s : Fin 16) :
    BI.Storable (upEmb : UEmb _ 𝕄) (forTile X J G d c s) := by unfold forTile; infer_instance

/-- A SparseCore's part is its tiles'. -/
theorem core_tiles (G : Dev nD → S2x16x56x56x192.Idx → F .f32) (d : Dev nD) (c : Fin 2) :
    forCore X J G d c = bigSep Finset.univ fun s : Fin 16 => forTile X J G d c s := by
  unfold forCore forTile shareT
  rw [bigSep_sep', bigSep_sep', ← out_tiles, ← pointsTo_deal Finset.univ Finset.univ_nonempty, ← pointsTo_deal Finset.univ Finset.univ_nonempty]

/-- The three arrays are the two SparseCores' parts. -/
theorem arrays_cores (G : Dev nD → S2x16x56x56x192.Idx → F .f32) (d : Dev nD) :
    (bigSep Finset.univ fun c : Fin 2 => forCore X J G d c)
      = iprop((valLoc d ↦{fullShare} (X d : Buf (Elt F) (valLoc d))) ∗ (idxLoc d ↦{fullShare} (J d : Buf (Elt F) (idxLoc d)))
          ∗ outLoc d ↦{fullShare} (G d : Buf (Elt F) (outLoc d))) := by
  unfold forCore shareC
  rw [bigSep_sep', bigSep_sep', ← out_cores, ← pointsTo_deal Finset.univ Finset.univ_nonempty, ← pointsTo_deal Finset.univ Finset.univ_nonempty]

variable [FloatOps F]

/-- The result on each device. -/
def gAll (d : Dev nD) : S2x16x56x56x192.Idx → F .f32 := gOut (X d) (J d)

def P : (K (F := F)).Pay (nD := nD) (Val := Elt F) (Name := ℕ) (U := UU) where
  st := fun q d c => match q with | 0 => forCore X J Z d c
  dn := fun q d c => match q with | 0 => forCore X J (gAll X J) d c
  go := fun q d c i => match q with | 0 => forTile X J Z d c (Fin.cast nSub_zero i)
  td := fun q d c i => match q with | 0 => forTile X J (gAll X J) d c (Fin.cast nSub_zero i)
  x := fun _ _ => iprop(emp)

instance P_storable : (P X J Z).IsStorable where
  st q d c := match q with | 0 => (inferInstance : BI.Storable (upEmb : UEmb _ 𝕄) (forCore X J Z d c))
  dn q d c := match q with | 0 => (inferInstance : BI.Storable (upEmb : UEmb _ 𝕄) (forCore X J (gAll X J) d c))
  go q d c i := match q with | 0 => (inferInstance : BI.Storable (upEmb : UEmb _ 𝕄) (forTile X J Z d c (Fin.cast nSub_zero i)))
  td q d c i := match q with | 0 => (inferInstance : BI.Storable (upEmb : UEmb _ 𝕄) (forTile X J (gAll X J) d c (Fin.cast nSub_zero i)))

/-! ## A tile's own semaphores and scratch -/

section Own
variable (d : Dev nD) (c : Fin τ.nSC) (j : Fin τ.nSub)

abbrev cell (n : DmaSems sig S_) : GSem nD τ sig := (V d c j, SemLoc.dma n.sem)

omit [FloatOps F] in
theorem cell_ne {a b : DmaSems sig S_} (h : (SemLoc.dma a.sem : SemLoc sig) ≠ SemLoc.dma b.sem) : cell d c j a ≠ cell d c j b :=
  fun e => h (Prod.mk.inj e).2
omit [FloatOps F] in
theorem cell_mem {a : DmaSems sig S_} (h : (SemLoc.dma a.sem : SemLoc sig).isScoped .scVector = true) : cell d c j a ∈ ownCells (V d c j) :=
  (mem_ownCells (g := cell d c j a)).mpr ⟨rfl, h⟩

omit [FloatOps F] in
theorem ownSems0_V :
    (ownSems0 (V d c j) : sProp 𝕄)
      = iprop(semVal (cell d c j cc0_scratch5) 0 ∗ semVal (cell d c j cc0_scratch6) 0 ∗ semVal (cell d c j cc0_scratch7) 0 ∗ semVal (cell d c j cc0_scratch8) 0
          ∗ bigSep (((((ownCells (V d c j)).erase (cell d c j cc0_scratch5)).erase (cell d c j cc0_scratch6)).erase (cell d c j cc0_scratch7)).erase (cell d c j cc0_scratch8))
              fun g => semVal g 0) := by
  unfold SparseCore.Cfg.ownSems0
  rw [SparseCore.bigSep_erase' (cell_mem d c j (a := cc0_scratch5) (by decide)),
    SparseCore.bigSep_erase' (Finset.mem_erase.mpr ⟨cell_ne d c j (a := cc0_scratch6) (b := cc0_scratch5) (by decide), cell_mem d c j (by decide)⟩),
    SparseCore.bigSep_erase' (Finset.mem_erase.mpr ⟨cell_ne d c j (a := cc0_scratch7) (b := cc0_scratch6) (by decide),
      Finset.mem_erase.mpr ⟨cell_ne d c j (b := cc0_scratch5) (by decide), cell_mem d c j (by decide)⟩⟩),
    SparseCore.bigSep_erase' (Finset.mem_erase.mpr ⟨cell_ne d c j (a := cc0_scratch8) (b := cc0_scratch7) (by decide),
      Finset.mem_erase.mpr ⟨cell_ne d c j (b := cc0_scratch6) (by decide),
        Finset.mem_erase.mpr ⟨cell_ne d c j (b := cc0_scratch5) (by decide), cell_mem d c j (by decide)⟩⟩⟩)]

abbrev ownRef (b : Ref sig .scVector) : DevRef τ sig := (Proc.scVector c j).devRef b

omit [FloatOps F] in
theorem ownRef_ne {a b : Ref sig .scVector} (h : a ≠ b) : ownRef c j a ≠ ownRef c j b := fun e => h (Proc.devRef_injective _ e)
omit [FloatOps F] in
theorem ownRef_mem {a : Ref sig .scVector} (h : (ownRef c j a).owner = .proc (Proc.scVector c j)) : ownRef c j a ∈ ownRefs (τ := τ) (sig := sig) (.scVector c j) :=
  SparseCore.Cfg.mem_ownRefs_of_owner h

omit [FloatOps F] in
theorem ownBufs_V :
    (ownBufs (V d c j) : sProp 𝕄)
      = iprop((∃ f, (V d c j).loc cc0_scratch0 ↦{fullShare} f) ∗ (∃ f, (V d c j).loc cc0_scratch1 ↦{fullShare} f)
          ∗ (∃ f, (V d c j).loc cc0_scratch2 ↦{fullShare} f) ∗ (∃ f, (V d c j).loc cc0_scratch3 ↦{fullShare} f)
          ∗ (∃ f, (V d c j).loc cc0_scratch4 ↦{fullShare} f)
          ∗ bigSep ((((((ownRefs (τ := τ) (.scVector c j)).erase (ownRef c j cc0_scratch0)).erase (ownRef c j cc0_scratch1)).erase (ownRef c j cc0_scratch2)).erase
              (ownRef c j cc0_scratch3)).erase (ownRef c j cc0_scratch4))
              fun b => iprop(∃ f, ((d, b) : Loc nD τ sig) ↦{fullShare} f)) := by
  unfold SparseCore.Cfg.ownBufs
  refine (SparseCore.bigSep_erase' (ownRef_mem c j (a := cc0_scratch0) rfl)).trans ?_
  rw [SparseCore.bigSep_erase' (Finset.mem_erase.mpr ⟨ownRef_ne c j (a := cc0_scratch1) (b := cc0_scratch0) (by decide), ownRef_mem c j rfl⟩),
    SparseCore.bigSep_erase' (Finset.mem_erase.mpr ⟨ownRef_ne c j (a := cc0_scratch2) (b := cc0_scratch1) (by decide),
      Finset.mem_erase.mpr ⟨ownRef_ne c j (b := cc0_scratch0) (by decide), ownRef_mem c j rfl⟩⟩),
    SparseCore.bigSep_erase' (Finset.mem_erase.mpr ⟨ownRef_ne c j (a := cc0_scratch3) (b := cc0_scratch2) (by decide),
      Finset.mem_erase.mpr ⟨ownRef_ne c j (b := cc0_scratch1) (by decide),
        Finset.mem_erase.mpr ⟨ownRef_ne c j (b := cc0_scratch0) (by decide), ownRef_mem c j rfl⟩⟩⟩),
    SparseCore.bigSep_erase' (Finset.mem_erase.mpr ⟨ownRef_ne c j (a := cc0_scratch4) (b := cc0_scratch3) (by decide),
      Finset.mem_erase.mpr ⟨ownRef_ne c j (b := cc0_scratch2) (by decide),
        Finset.mem_erase.mpr ⟨ownRef_ne c j (b := cc0_scratch1) (by decide),
          Finset.mem_erase.mpr ⟨ownRef_ne c j (b := cc0_scratch0) (by decide), ownRef_mem c j rfl⟩⟩⟩⟩)]

end Own

/-! ## The tile's task -/

/-- A scratch array at some contents, both ways it is said. -/
theorem scratch_some (thr : Thread nD τ) (b : Ref sig thr.2.kind) :
    (iprop(∃ f, thr.loc b ↦{fullShare} f) : sProp 𝕄) = iprop(∃ Y, owns thr (Memref.whole b) fullShare Y) := by
  congr 1; funext f; exact (owns_whole thr b fullShare f).symm

variable (hwf : ∀ d, ∀ r < 448, Wf (baseOf r) (rowAt (F := F) (e := .i32) (J d) r))

include hwf in
theorem tile_body (d : Dev nD) (i : grid0.Coords) (hF : (K (F := F)).Facts) (O : CellTallies nD τ sig (HIx 1)) (W : Waits sig (HIx 1)) (hO : ∀ g, O g none = 0) :
    (iprop(levAts (K (F := F)).L (K (F := F)).lev ∗ emp ∗ forTile X J Z d (i 0) (i 1)
        ∗ scopedBufs (thrOf d i) ∗ scopedSems0 (thrOf d i) ∗ owes (thrOf d i) O W) : sProp 𝕄)
      ⊢ wp frame (wpE (defs₀ (F := F)) 𝒱₀ (thrOf d i) none) Set.univ
          (cc0__sc_unpool_body (F := F) i (Memref.whole main_v1_scv) (Memref.isWhole_whole _) (Memref.whole main_v3_scv) (Memref.isWhole_whole _)
            (Memref.whole main_v4_scv) (Memref.isWhole_whole _) (Memref.whole cc0_scratch0) (Memref.isWhole_whole _) (Memref.whole cc0_scratch1) (Memref.isWhole_whole _)
            (Memref.whole cc0_scratch2) (Memref.isWhole_whole _) (Memref.whole cc0_scratch3) (Memref.isWhole_whole _) (Memref.whole cc0_scratch4) (Memref.isWhole_whole _)
            cc0_scratch5 cc0_scratch6 cc0_scratch7 cc0_scratch8)
          fun _ => iprop(forTile X J (gAll X J) d (i 0) (i 1) ∗ scopedBufs (thrOf d i) ∗ scopedSems0 (thrOf d i)
            ∗ ∃ W', ⌜∀ p ∈ W', p ∈ W ∨ p.2 = none⌝ ∗ owes (thrOf d i) O W') := by
  rw [(K (F := F)).scopedBufs_V hF d ((i 0).castLE hcore0) ((i 1).castLE hsub0),
    SparseCore.Cfg.scopedSems0_V (Val := Elt F) d ((i 0).castLE hcore0) ((i 1).castLE hsub0), ownSems0_V, ownBufs_V]
  simp only [scratch_some]
  unfold forTile
  iintro ⟨#Hlv, -, ⟨Hx, Hj, Ho⟩, ⟨H0, H1, H2, H3, H4, Hbufs⟩, ⟨S5, S6, S7, S8, Hsems⟩, HO⟩
  ihave #Hmw := ((K (F := F)).mayWaits_none (thr := thrOf d i) hO) $$ Hlv
  ihave Hp := (tile_pend (F := F) d i _) $$ Ho
  ihave Hx := (Entails.of_eq (owns_whole (thrOf d i) main_v1_scv _ _).symm) $$ Hx
  ihave Hj := (Entails.of_eq (owns_whole (thrOf d i) main_v3_scv _ _).symm) $$ Hj
  iapply ((body_run (F := F) d i (Memref.whole main_v1_scv) (Memref.isWhole_whole _) (Memref.whole main_v3_scv) (Memref.isWhole_whole _)
            (Memref.whole main_v4_scv) (Memref.isWhole_whole _) (Memref.whole cc0_scratch0) (Memref.isWhole_whole _) (Memref.whole cc0_scratch1) (Memref.isWhole_whole _)
            (Memref.whole cc0_scratch2) (Memref.isWhole_whole _) (Memref.whole cc0_scratch3) (Memref.isWhole_whole _) (Memref.whole cc0_scratch4) (Memref.isWhole_whole _)
            cc0_scratch5 cc0_scratch6 cc0_scratch7 cc0_scratch8 (X := X d) (J := J d) (q := shareT (i 0) (i 1)) (O := O) (W := W) (hwf d)).trans (wp_wand _ _ _)) $$ [Hx Hj H0 H1 H2 H3 H4 S5 S6 S7 S8 HO Hp]
  · isplitl []; · iexact Hmw
    isplitl [Hx]; · iexact Hx
    isplitl [Hj]; · iexact Hj
    isplitl [H0]; · iexact H0
    isplitl [H1]; · iexact H1
    isplitl [H2]; · iexact H2
    isplitl [H3]; · iexact H3
    isplitl [H4]; · iexact H4
    isplitl [S5]; · iexact S5
    isplitl [S6]; · iexact S6
    isplitl [S7]; · iexact S7
    isplitl [S8]; · iexact S8
    isplitl [HO]
    · unfold owed
      iexists W; isplitr
      · ipureintro; exact fun p hp => .inl hp
      · iexact HO
    · iexact Hp
  iintro %_ ⟨Hx, Hj, H0, H1, H2, H3, H4, S5, S6, S7, S8, HO, Hd⟩
  isplitl [Hx Hj Hd]
  · isplitl [Hx]; · iapply (Entails.of_eq (owns_whole (thrOf d i) main_v1_scv _ _)); iexact Hx
    isplitl [Hj]; · iapply (Entails.of_eq (owns_whole (thrOf d i) main_v3_scv _ _)); iexact Hj
    iapply (tile_done (F := F) d i (X d) (J d)); iexact Hd
  isplitl [H0 H1 H2 H3 H4 Hbufs]
  · iframe
  isplitl [S5 S6 S7 S8 Hsems]
  · iframe
  · unfold owed; iexact HO

/-! ## The launch theorem's obligations -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__sc_unpool_body (coordsV c s) (Memref.whole main_v1_scv) (Memref.isWhole_whole _) (Memref.whole main_v3_scv) (Memref.isWhole_whole _)
            (Memref.whole main_v4_scv) (Memref.isWhole_whole _) (Memref.whole cc0_scratch0) (Memref.isWhole_whole _) (Memref.whole cc0_scratch1) (Memref.isWhole_whole _)
            (Memref.whole cc0_scratch2) (Memref.isWhole_whole _) (Memref.whole cc0_scratch3) (Memref.isWhole_whole _) (Memref.whole cc0_scratch4) (Memref.isWhole_whole _)
            cc0_scratch5 cc0_scratch6 cc0_scratch7 cc0_scratch8) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

include hwf in
set_option maxRecDepth 1024 in
theorem tileObl (hF : (K (F := F)).Facts) : (K (F := F)).TileObl (D (F := F)) 𝒱 (P X J Z) v₀ 0 := by
  intro d c i O W hO _ _
  simp only [show (P X J Z).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body X J Z hwf d (coordsV ⟨_, hc.1⟩ ⟨_, hc.2⟩) hF O W hO).trans (wp_mono frame _ _ fun _ => obl_post)

omit [FloatOps F] in
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

theorem vecSplit : (K (F := F)).VecSplit' (P X J Z) 0 := by
  intro d c
  show forCore X J Z d c ⊢ |={Set.univ}=> iprop(
      (bigSep Finset.univ fun i : Fin ((K (F := F)).nSub 0) => forTile X J Z d c (Fin.cast nSub_zero i))
      ∗ ((bigSep Finset.univ fun i : Fin ((K (F := F)).nSub 0) => forTile X J (gAll X J) d c (Fin.cast nSub_zero i)) -∗ forCore X J (gAll X J) d c))
  rw [bigSep_tasks (F := F) (fun i => forTile X J Z d c i), bigSep_tasks (F := F) (fun i => forTile X J (gAll X J) d c i), core_tiles, core_tiles]
  iintro H; imodintro
  isplitl [H]; · iexact H
  iintro H; iexact H

end Launch

end Cert.Proof.Unpool

end
-- ==== Proof.Launch.lean ====
/- The whole program's run: the host's operations about the call, and what the arrays hold at the end. -/
module

public import proofs.«01_k».proof.Proof.Tile

@[expose] public section

noncomputable section

namespace Cert.Proof.Unpool

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers
open Idealize.ShloMosaic.StableHlo (held held_split held_sdiff_result wp_hlo_within)
open Idealize.ShloMosaic.Tactic

variable {F : FTy → Type}

local notation "𝕄" => MT nD τ sig (HIx 1) (Elt F) ℕ UU ℕ

/-! ## The host's operations and the values they make -/

abbrev ref' (b : Ref sig .tc) : DevRef τ sig := Proc.devRef .tc b

abbrev opTX : HloOp τ sig (Elt F) := StableHlo.unary main_arg0 main_v0 ((transpose S2x8x28x28x192 [0, 2, 3, 4, 1] · transposes_S2x192x8x28x28_S2x8x28x28x192_0_2_3_4_1) : (⟨S2x192x8x28x28, .f32⟩ : BufTy).Contents (Elt F) → (⟨S2x8x28x28x192, .f32⟩ : BufTy).Contents (Elt F))
abbrev opRX : HloOp τ sig (Elt F) := StableHlo.reshape main_v0 main_v1 (rfl : (.f32 : EltTy) = .f32) shapeCasts_S2x8x28x28x192_S448x5376
abbrev opTI : HloOp τ sig (Elt F) := StableHlo.unary main_arg1 main_v2 ((transpose S2x8x28x28x192 [0, 2, 3, 4, 1] · transposes_S2x192x8x28x28_S2x8x28x28x192_0_2_3_4_1) : (⟨S2x192x8x28x28, .i32⟩ : BufTy).Contents (Elt F) → (⟨S2x8x28x28x192, .i32⟩ : BufTy).Contents (Elt F))
abbrev opRI : HloOp τ sig (Elt F) := StableHlo.reshape main_v2 main_v3 (rfl : (.i32 : EltTy) = .i32) shapeCasts_S2x8x28x28x192_S448x5376
abbrev opTO : HloOp τ sig (Elt F) := StableHlo.unary main_v4 main_v5 ((transpose S2x192x16x56x56 [0, 4, 1, 2, 3] · transposes_S2x16x56x56x192_S2x192x16x56x56_0_4_1_2_3) : (⟨S2x16x56x56x192, .f32⟩ : BufTy).Contents (Elt F) → (⟨S2x192x16x56x56, .f32⟩ : BufTy).Contents (Elt F))

/-- An argument as the SparseCores read it, channels last and a row to each batch, depth and height. -/
def rowsOf {e : EltTy} (A : S2x192x8x28x28.Idx → Elt F e) : S448x5376.Idx → Elt F e :=
  shapeCast S448x5376 (transpose S2x8x28x28x192 [0, 2, 3, 4, 1] A transposes_S2x192x8x28x28_S2x8x28x28x192_0_2_3_4_1) shapeCasts_S2x8x28x28x192_S448x5376

/-- The result as @main returns it, channels second. -/
def chanSecond (G : S2x16x56x56x192.Idx → F .f32) : S2x192x16x56x56.Idx → F .f32 :=
  transpose S2x192x16x56x56 [0, 4, 1, 2, 3] G transposes_S2x16x56x56x192_S2x192x16x56x56_0_4_1_2_3

abbrev aLoc (d : Dev nD) : Loc nD τ sig := (SparseCore.T d).loc main_arg0
abbrev bLoc (d : Dev nD) : Loc nD τ sig := (SparseCore.T d).loc main_arg1
abbrev rLoc (d : Dev nD) : Loc nD τ sig := (SparseCore.T d).loc main_v5

section Main
variable (m : (ℓ : Loc nD τ sig) → Buf (Elt F) ℓ) (ρ : Dev nD → PrngReg)

/-- What the call's operands and result hold when it starts. -/
def xIn (d : Dev nD) : S448x5376.Idx → F .f32 := rowsOf (F := F) (e := .f32) (m (aLoc d))
def jIn (d : Dev nD) : S448x5376.Idx → BitVec 32 := rowsOf (F := F) (e := .i32) (m (bLoc d))
def zIn (d : Dev nD) : S2x16x56x56x192.Idx → F .f32 := m (outLoc d)

abbrev S8 : Finset (DevRef τ sig) := {ref' main_arg0, ref' main_arg1, ref' main_v0, ref' main_v1, ref' main_v2, ref' main_v3, ref' main_v4, ref' main_v5}

theorem held_S8 (d : Dev nD) (W : Valuation τ sig (Elt F)) :
    (held (T d) S8 W : sProp 𝕄) = iprop((aLoc d ↦{fullShare} W (ref' main_arg0)) ∗ (bLoc d ↦{fullShare} W (ref' main_arg1))
      ∗ ((SparseCore.T d).loc main_v0 ↦{fullShare} W (ref' main_v0)) ∗ (valLoc d ↦{fullShare} W (ref' main_v1))
      ∗ ((SparseCore.T d).loc main_v2 ↦{fullShare} W (ref' main_v2)) ∗ (idxLoc d ↦{fullShare} W (ref' main_v3))
      ∗ (outLoc d ↦{fullShare} W (ref' main_v4)) ∗ rLoc d ↦{fullShare} W (ref' main_v5)) := by
  unfold held S8
  rw [SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

theorem unscopedBufs_eq (d : Dev nD) (W : (b : Ref sig .tc) → Buf (Elt F) ((d.tc : Thread nD τ).loc b)) :
    (unscopedBufs d W : sProp 𝕄) = iprop((aLoc d ↦{fullShare} W main_arg0) ∗ (bLoc d ↦{fullShare} W main_arg1)
      ∗ ((SparseCore.T d).loc main_v0 ↦{fullShare} W main_v0) ∗ (valLoc d ↦{fullShare} W main_v1)
      ∗ ((SparseCore.T d).loc main_v2 ↦{fullShare} W main_v2) ∗ (idxLoc d ↦{fullShare} W main_v3)
      ∗ (outLoc d ↦{fullShare} W main_v4) ∗ rLoc d ↦{fullShare} W main_v5) := by
  unfold unscopedBufs
  rw [show (Finset.univ.filter fun b : Ref sig .tc => ¬ b.isScoped) = {main_arg0, main_arg1, main_v0, main_v1, main_v2, main_v3, main_v4, main_v5} by decide,
    SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

/-- The arrays at launch, and when the call starts. -/
def V0 (d : Dev nD) : Valuation τ sig (Elt F) := fun b => m (d, b)
abbrev V1 (d : Dev nD) : Valuation τ sig (Elt F) := opTX.result (V0 m d)
abbrev V2 (d : Dev nD) : Valuation τ sig (Elt F) := opRX.result (V1 m d)
abbrev V3 (d : Dev nD) : Valuation τ sig (Elt F) := opTI.result (V2 m d)
abbrev V4 (d : Dev nD) : Valuation τ sig (Elt F) := opRI.result (V3 m d)

theorem unscoped_held (d : Dev nD) : (unscopedBufs d (fun b => m ((SparseCore.T d).loc b)) : sProp 𝕄) = held (T d) S8 (V0 m d) := by
  rw [unscopedBufs_eq, held_S8]; rfl

theorem V4_a (d : Dev nD) : V4 m d (ref' main_arg0) = m (aLoc d) := by
  show opRI.result (opTI.result (opRX.result (opTX.result (V0 m d)))) (Proc.devRef .tc main_arg0) = _
  rw [StableHlo.reshape_result_ne _ _ _ _ _ _ _ (by decide), StableHlo.unary_result_ne _ _ _ _ _ _ (by decide),
    StableHlo.reshape_result_ne _ _ _ _ _ _ _ (by decide), StableHlo.unary_result_ne _ _ _ _ _ _ (by decide)]; rfl
theorem V4_b (d : Dev nD) : V4 m d (ref' main_arg1) = m (bLoc d) := by
  show opRI.result (opTI.result (opRX.result (opTX.result (V0 m d)))) (Proc.devRef .tc main_arg1) = _
  rw [StableHlo.reshape_result_ne _ _ _ _ _ _ _ (by decide), StableHlo.unary_result_ne _ _ _ _ _ _ (by decide),
    StableHlo.reshape_result_ne _ _ _ _ _ _ _ (by decide), StableHlo.unary_result_ne _ _ _ _ _ _ (by decide)]; rfl
theorem V4_z (d : Dev nD) : V4 m d (ref' main_v4) = zIn m d := by
  show opRI.result (opTI.result (opRX.result (opTX.result (V0 m d)))) (Proc.devRef .tc main_v4) = _
  rw [StableHlo.reshape_result_ne _ _ _ _ _ _ _ (by decide), StableHlo.unary_result_ne _ _ _ _ _ _ (by decide),
    StableHlo.reshape_result_ne _ _ _ _ _ _ _ (by decide), StableHlo.unary_result_ne _ _ _ _ _ _ (by decide)]; rfl
theorem V4_x (d : Dev nD) : V4 m d (ref' main_v1) = xIn m d := by
  show opRI.result (opTI.result (opRX.result (opTX.result (V0 m d)))) (Proc.devRef .tc main_v1) = _
  rw [StableHlo.reshape_result_ne _ _ _ _ _ _ _ (by decide), StableHlo.unary_result_ne _ _ _ _ _ _ (by decide),
    StableHlo.reshape_result, StableHlo.unary_result]; rfl
theorem V4_j (d : Dev nD) : V4 m d (ref' main_v3) = jIn m d := by
  show opRI.result (opTI.result (opRX.result (opTX.result (V0 m d)))) (Proc.devRef .tc main_v3) = _
  rw [StableHlo.reshape_result, StableHlo.unary_result, StableHlo.reshape_result_ne _ _ _ _ _ _ _ (by decide), StableHlo.unary_result_ne _ _ _ _ _ _ (by decide)]; rfl

variable [FloatOps F]

/-- The arrays after the call, and the result. -/
def V5 (d : Dev nD) : Valuation τ sig (Elt F) := Function.update (V4 m d) (ref' main_v4) (gAll (xIn m) (jIn m) d)

def result (d : Dev nD) : S2x192x16x56x56.Idx → F .f32 := chanSecond (gAll (xIn m) (jIn m) d)

theorem V5_ne (d : Dev nD) {b : Ref sig .tc} (h : b ≠ main_v4) : V5 m d (ref' b) = V4 m d (ref' b) :=
  Function.update_of_ne (fun e => h (Proc.devRef_injective _ e)) _ _
theorem V5_g (d : Dev nD) : V5 m d (ref' main_v4) = gAll (xIn m) (jIn m) d := Function.update_self _ _ _

theorem V6_a (d : Dev nD) : opTO.result (V5 m d) (ref' main_arg0) = m (aLoc d) := by
  rw [StableHlo.unary_result_ne _ _ _ _ _ _ (by decide), V5_ne m d (by decide), V4_a]
theorem V6_b (d : Dev nD) : opTO.result (V5 m d) (ref' main_arg1) = m (bLoc d) := by
  rw [StableHlo.unary_result_ne _ _ _ _ _ _ (by decide), V5_ne m d (by decide), V4_b]
theorem V6_r (d : Dev nD) : opTO.result (V5 m d) (ref' main_v5) = result m d := by
  rw [StableHlo.unary_result, V5_g]; rfl

/-! ## The launch -/

abbrev PM : (K (F := F)).Pay (nD := nD) (Val := Elt F) (Name := ℕ) (U := UU) := P (xIn m) (jIn m) (zIn m)

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (PM m).x q thr) := by
  unfold u₀
  iintro Hu
  ihave H := (ownU_pair _ _) $$ Hu
  icases H with ⟨HH, -⟩
  imodintro
  isplitl [HH]; · iexact HH
  isplitr; · rw [bigSep_emp']; iempintro
  unfold PM P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

theorem st0_eq (d : Dev nD) : (bigSep Finset.univ fun c : Fin ((K (F := F)).nCore 0) => (PM m).st 0 d c)
    = iprop((valLoc d ↦{fullShare} (xIn m d : Buf (Elt F) (valLoc d))) ∗ (idxLoc d ↦{fullShare} (jIn m d : Buf (Elt F) (idxLoc d)))
          ∗ outLoc d ↦{fullShare} (zIn m d : Buf (Elt F) (outLoc d))) :=
  arrays_cores (xIn m) (jIn m) (zIn m) d
theorem dn0_eq (d : Dev nD) : (bigSep Finset.univ fun c : Fin ((K (F := F)).nCore 0) => (PM m).dn 0 d c)
    = iprop((valLoc d ↦{fullShare} (xIn m d : Buf (Elt F) (valLoc d))) ∗ (idxLoc d ↦{fullShare} (jIn m d : Buf (Elt F) (idxLoc d)))
          ∗ outLoc d ↦{fullShare} (gAll (xIn m) (jIn m) d : Buf (Elt F) (outLoc d))) :=
  arrays_cores (xIn m) (jIn m) (gAll (xIn m) (jIn m)) d

/-- What @main leaves: the arguments as they were, the result at its value. -/
abbrev FIN (d : Dev nD) : sProp 𝕄 :=
  iprop((aLoc d ↦{fullShare} m (aLoc d)) ∗ (bLoc d ↦{fullShare} m (bLoc d)) ∗ rLoc d ↦{fullShare} (result m d : Buf (Elt F) (rLoc d)))

theorem hmain (κ : GSem nD τ sig → ℕ) (d : Dev nD) :
    iprop((K (F := F)).ctx EH (PM m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held]
  simp only [main, wp_bind, wp_pure]
  iintro ⟨#Hctx, Hst, ⟨Hb, Hheld, Hts, -⟩, -⟩
  iapply (wp_hlo_within 𝒱 (SparseCore.T d) none Set.univ (op := opTX) (S := S8) (show ({ref' main_arg0, ref' main_v0} : Finset _) ⊆ S8 by decide) (V := V0 m d)) $$ [Hb Hheld]
  · isplitl [Hb] <;> iassumption
  iintro ⟨Hb, Hheld⟩
  rw [wp_ret]; imodintro
  iapply (wp_hlo_within 𝒱 (SparseCore.T d) none Set.univ (op := opRX) (S := S8) (show ({ref' main_v0, ref' main_v1} : Finset _) ⊆ S8 by decide) (V := V1 m d)) $$ [Hb Hheld]
  · isplitl [Hb] <;> iassumption
  iintro ⟨Hb, Hheld⟩
  rw [wp_ret]; imodintro
  iapply (wp_hlo_within 𝒱 (SparseCore.T d) none Set.univ (op := opTI) (S := S8) (show ({ref' main_arg1, ref' main_v2} : Finset _) ⊆ S8 by decide) (V := V2 m d)) $$ [Hb Hheld]
  · isplitl [Hb] <;> iassumption
  iintro ⟨Hb, Hheld⟩
  rw [wp_ret]; imodintro
  iapply (wp_hlo_within 𝒱 (SparseCore.T d) none Set.univ (op := opRI) (S := S8) (show ({ref' main_v2, ref' main_v3} : Finset _) ⊆ S8 by decide) (V := V3 m d)) $$ [Hb Hheld]
  · isplitl [Hb] <;> iassumption
  iintro ⟨Hb, Hheld⟩
  rw [wp_ret]; imodintro
  ihave Hh := (Entails.of_eq (held_S8 (F := F) d (V4 m d))) $$ Hheld
  icases Hh with ⟨Ha, Hi, Hv0, Hx, Hv2, Hj, Ho, Hr⟩
  ihave Hx := (Entails.of_eq (congrArg (fun f => (valLoc d ↦{fullShare} f : sProp 𝕄)) (V4_x m d))) $$ Hx
  ihave Hj := (Entails.of_eq (congrArg (fun f => (idxLoc d ↦{fullShare} f : sProp 𝕄)) (V4_j m d))) $$ Hj
  ihave Ho := (Entails.of_eq (congrArg (fun f => (outLoc d ↦{fullShare} f : sProp 𝕄)) (V4_z m d))) $$ Ho
  iapply ((K (F := F)).wp_run (D (F := F)) 𝒱 (EH := EH) (P := PM m) κ d 0) $$ [Hst Hx Hj Ho Hb Ha Hi Hv0 Hv2 Hr Hts]
  isplitr; · iexact Hctx
  isplitl [Hst]; · iexact Hst
  isplitl [Hx Hj Ho]
  · rw [st0_eq]
    isplitl [Hx]; · iexact Hx
    isplitl [Hj]; · iexact Hj
    iexact Ho
  iintro ⟨Hst, Hdn⟩
  ihave Hdn' := (Entails.of_eq (dn0_eq m d)) $$ Hdn
  icases Hdn' with ⟨Hx, Hj, Ho⟩
  iapply (wp_hlo_within 𝒱 (SparseCore.T d) none Set.univ (op := opTO) (S := S8) (show ({ref' main_v4, ref' main_v5} : Finset _) ⊆ S8 by decide) (V := V5 m d)) $$ [Hb Ha Hi Hv0 Hx Hv2 Hj Ho Hr]
  · isplitl [Hb]; · iexact Hb
    rw [held_S8, V5_g, V5_ne m d (b := main_arg0) (by decide), V5_ne m d (b := main_arg1) (by decide), V5_ne m d (b := main_v0) (by decide),
      V5_ne m d (b := main_v1) (by decide), V5_ne m d (b := main_v2) (by decide), V5_ne m d (b := main_v3) (by decide), V5_ne m d (b := main_v5) (by decide),
      V4_x, V4_j]
    isplitl [Ha]; · iexact Ha
    isplitl [Hi]; · iexact Hi
    isplitl [Hv0]; · iexact Hv0
    isplitl [Hx]; · iexact Hx
    isplitl [Hv2]; · iexact Hv2
    isplitl [Hj]; · iexact Hj
    isplitl [Ho]; · iexact Ho
    iexact Hr
  iintro ⟨Hb, Hheld⟩
  ihave Hh := (Entails.of_eq (held_S8 (F := F) d (opTO.result (V5 m d)))) $$ Hheld
  icases Hh with ⟨Ha, Hi, -, -, -, -, -, Hr⟩
  ihave Ha := (Entails.of_eq (congrArg (fun f => (aLoc d ↦{fullShare} f : sProp 𝕄)) (V6_a m d))) $$ Ha
  ihave Hi := (Entails.of_eq (congrArg (fun f => (bLoc d ↦{fullShare} f : sProp 𝕄)) (V6_b m d))) $$ Hi
  ihave Hr := (Entails.of_eq (congrArg (fun f => (rLoc d ↦{fullShare} f : sProp 𝕄)) (V6_r m d))) $$ Hr
  rw [wp_ret]; imodintro; imodintro
  isplitl [Hst]; · iexact Hst
  isplitr [Hb Hts]
  · isplitl [Ha]; · iexact Ha
    isplitl [Hi]; · iexact Hi
    iexact Hr
  isplitl [Hb] <;> iassumption

/-- What a device's arrays hold at the end. -/
def fq (d : Dev nD) (s' : Phys nD τ sig (Elt F)) : Prop :=
  s'.mem.mem (aLoc d) = m (aLoc d) ∧ s'.mem.mem (bLoc d) = m (bLoc d) ∧ s'.mem.mem (rLoc d) = result m d

omit [FloatOps F] in
theorem holds_at {ℓ : Loc nD τ sig} {f : Buf (Elt F) ℓ} (s' : Phys nD τ sig (Elt F)) :
    iprop((ℓ ↦{fullShare} f) ∗ SI s') ⊢ (⌜s'.mem.mem ℓ = f⌝ : sProp 𝕄) := by
  iintro ⟨Hx, HSI⟩
  ihave H := (SI_pointsTo_agree (st := s') (ℓ := ℓ) (I := Finset.univ) (q := fullShare) (f := f)) $$ [HSI Hx]
  · isplitl [HSI] <;> iassumption
  icases H with %hx
  ipureintro; exact funext fun i => hx i (Finset.mem_univ i)

omit [FloatOps F] in
theorem pure_ands {a b c : Prop} : iprop(⌜a⌝ ∧ ⌜b⌝ ∧ ⌜c⌝) ⊢ (⌜a ∧ b ∧ c⌝ : sProp 𝕄) := by
  iintro ⟨%h1, %h2, %h3⟩; ipureintro; exact ⟨h1, h2, h3⟩

theorem hfin (d : Dev nD) (s' : Phys nD τ sig (Elt F)) : iprop(FIN m d ∗ SI s') ⊢ (⌜fq m d s'⌝ : sProp 𝕄) := by
  have h1 : iprop(FIN m d ∗ SI s') ⊢ (⌜s'.mem.mem (aLoc d) = m (aLoc d)⌝ : sProp 𝕄) := by
    iintro ⟨⟨Ha, Hi, Hr⟩, HSI⟩; iapply (holds_at s'); isplitl [Ha] <;> iassumption
  have h2 : iprop(FIN m d ∗ SI s') ⊢ (⌜s'.mem.mem (bLoc d) = m (bLoc d)⌝ : sProp 𝕄) := by
    iintro ⟨⟨Ha, Hi, Hr⟩, HSI⟩; iapply (holds_at s'); isplitl [Hi] <;> iassumption
  have h3 : iprop(FIN m d ∗ SI s') ⊢ (⌜s'.mem.mem (rLoc d) = result m d⌝ : sProp 𝕄) := by
    iintro ⟨⟨Ha, Hi, Hr⟩, HSI⟩; iapply (holds_at s'); isplitl [Hr] <;> iassumption
  refine (BI.and_intro h1 (BI.and_intro h2 h3)).trans ?_
  exact pure_ands

/-- What the program ends with: every device's arguments unchanged and result at its value, every semaphore at zero. -/
def QC : PUnit × MemSt nD τ sig (Elt F) → Prop := fun r =>
  (∀ d : Dev nD, r.2.mem (aLoc d) = m (aLoc d) ∧ r.2.mem (bLoc d) = m (bLoc d) ∧ r.2.mem (rLoc d) = result m d) ∧ r.2.sem = fun _ => 0

theorem run_main [∀ e, Nonempty (Elt F e)] (hwf : ∀ d, ∀ r < 448, Wf (baseOf r) (rowAt (F := F) (e := .i32) (jIn m d) r)) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := PM m) (A := ∅) facts v₀
    (fun q hq => match q with | 0 => nomatch hq)
    (fun q _ => match q with | 0 => tileObl (xIn m) (jIn m) (zIn m) hwf facts)
    (fun q _ => match q with | 0 => SparseCore.Cfg.VecSplit.of_plain (vecSplit (xIn m) (jIn m) (zIn m)))
    m ρ main (fun _ => iprop(emp)) (FIN m) (u₀ (F := F)) (sep_elim_left.trans (hu₀ m)) (hmain m ρ) (fq m) (hfin m) (QC m) (fun _ h hz => ⟨h, hz⟩)

end Main

end Cert.Proof.Unpool

end
-- ==== Proof.Window.lean ====
/- What the precondition gives: every index word of a row names a position of its own window. -/
module

public import proofs.«01_k».proof.Proof.Launch
public import proofs.«01_k».proof.Proof.Gen.Pre_in_own_window
public import Idealize.ShloMosaic.Lib.ReduceAll
public import Idealize.ShloMosaic.Lib.Pipeline.Value

@[expose] public section

noncomputable section

namespace Cert.Proof.Unpool

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers
open Idealize.ShloMosaic.StableHlo (held held_split held_sdiff_result wp_hlo_within)
open Idealize.ShloMosaic.Tactic

variable {F : FTy → Type}

local notation "𝕄" => MT nD τ sig (HIx 1) (Elt F) ℕ UU ℕ

/-! ## What the precondition says of an index word -/

/-- An element's own window starts at `base + 2 * w`; its index word is one of the window's eight positions. -/
def InWindow (v : BitVec 32) (d h w : ℕ) : Prop :=
  ∃ a b c : ℕ, a < 2 ∧ b < 2 ∧ c < 2 ∧ v.toNat = (112 * d + 2 * h) * 56 + 2 * w + (3136 * a + 56 * b + c)

/-- The window's start as the precondition computes it. -/
def startWord (d h w : ℕ) : BitVec 32 :=
  IntOp.addi (IntOp.muli (IntOp.addi (IntOp.muli (IntOp.muli 2#32 (BitVec.ofNat 32 d)) 56#32) (IntOp.muli 2#32 (BitVec.ofNat 32 h))) 56#32)
    (IntOp.muli 2#32 (BitVec.ofNat 32 w))

theorem startWord_eq {d h w : ℕ} : startWord d h w = BitVec.ofNat 32 ((112 * d + 2 * h) * 56 + 2 * w) := by
  apply BitVec.eq_of_toNat_eq
  unfold startWord IntOp.addi IntOp.muli
  simp only [BitVec.toNat_add, BitVec.toNat_mul, BitVec.toNat_ofNat, Nat.reducePow, Nat.reduceMod]
  omega

theorem offset_eq {v : BitVec 32} {d h w o : ℕ} (hd : d < 8) (hh : h < 28) (hw : w < 28) (ho : o < 4000)
    (e : IntOp.subi v (startWord d h w) = BitVec.ofNat 32 o) : v.toNat = (112 * d + 2 * h) * 56 + 2 * w + o := by
  rw [startWord_eq] at e
  have e' := congrArg BitVec.toNat e
  unfold IntOp.subi at e'
  simp only [BitVec.toNat_sub, BitVec.toNat_ofNat, Nat.reducePow] at e'
  have := v.isLt
  omega

theorem inWindow_of_words {v : BitVec 32} {d h w : ℕ} (hd : d < 8) (hh : h < 28) (hw : w < 28)
    (e : ((((((IntOp.subi v (startWord d h w) = 0#32 ∨ IntOp.subi v (startWord d h w) = 1#32) ∨ IntOp.subi v (startWord d h w) = 56#32)
      ∨ IntOp.subi v (startWord d h w) = 57#32) ∨ IntOp.subi v (startWord d h w) = 3136#32) ∨ IntOp.subi v (startWord d h w) = 3137#32)
      ∨ IntOp.subi v (startWord d h w) = 3192#32) ∨ IntOp.subi v (startWord d h w) = 3193#32) : InWindow v d h w := by
  rcases e with ((((((e | e) | e) | e) | e) | e) | e) | e
  · exact ⟨0, 0, 0, by omega, by omega, by omega, offset_eq (o := 0) hd hh hw (by omega) e⟩
  · exact ⟨0, 0, 1, by omega, by omega, by omega, offset_eq (o := 1) hd hh hw (by omega) e⟩
  · exact ⟨0, 1, 0, by omega, by omega, by omega, offset_eq (o := 56) hd hh hw (by omega) e⟩
  · exact ⟨0, 1, 1, by omega, by omega, by omega, offset_eq (o := 57) hd hh hw (by omega) e⟩
  · exact ⟨1, 0, 0, by omega, by omega, by omega, offset_eq (o := 3136) hd hh hw (by omega) e⟩
  · exact ⟨1, 0, 1, by omega, by omega, by omega, offset_eq (o := 3137) hd hh hw (by omega) e⟩
  · exact ⟨1, 1, 0, by omega, by omega, by omega, offset_eq (o := 3192) hd hh hw (by omega) e⟩
  · exact ⟨1, 1, 1, by omega, by omega, by omega, offset_eq (o := 3193) hd hh hw (by omega) e⟩

theorem or_word {p : Prop} {x : BitVec 1} {a b : BitVec 32} (hp : x = 1#1 → p) (e : IntOp.ori x (IntOp.cmpi .eq a b) = 1#1) : p ∨ a = b :=
  (IntOp.ori_eq_one.1 e).imp hp IntOp.cmpi_eq.1

instance : Subsingleton Cert.Pre_in_own_window.S_.Idx := ⟨fun _ _ => funext fun a => a.elim0⟩

/-- Under the precondition every index word names a position of its own window. -/
theorem inWindow_of_pre [FloatOps F] (A : S2x192x8x28x28.Idx → F .f32) (I : S2x192x8x28x28.Idx → BitVec 32)
    (h : Cert.Pre_in_own_window.fn (F := F) A I = fun _ => 1#1) (k : S2x192x8x28x28.Idx) :
    InWindow (I k) (k 2).val (k 3).val (k 4).val := by
  have e := Host.reduce_andi_all _ _ _ _ _ (congrFun h (fun a => a.elim0)) k
  refine inWindow_of_words (k 2).isLt (k 3).isLt (k 4).isLt ?_
  exact or_word (or_word (or_word (or_word (or_word (or_word (or_word IntOp.cmpi_eq.1)))))) e

/-! ## The operands' rows -/

/-- A row's element is the argument's at the row's batch, depth and height and the element's width and channel. -/
theorem rowsOf_apply {e : EltTy} (A : S2x192x8x28x28.Idx → Elt F e) {r n : ℕ} (hr : r < 448) (hn : n < 5376) :
    rowsOf (F := F) A (ix2 ⟨r, hr⟩ ⟨n, hn⟩)
      = A (ix5 ⟨r / 224, by omega⟩ ⟨n % 192, by omega⟩ ⟨r % 224 / 28, by omega⟩ ⟨r % 28, by omega⟩ ⟨n / 192, by omega⟩) := by
  unfold rowsOf
  refine (shapeCast_apply _ _ _ (ix5 ⟨r / 224, by omega⟩ ⟨r % 224 / 28, by omega⟩ ⟨r % 28, by omega⟩ ⟨n / 192, by omega⟩ ⟨n % 192, by omega⟩) ?_).trans ?_
  · rw [Shape.rowMajor_val_five, Shape.rowMajor_val_two]
    show (((r / 224 * 8 + r % 224 / 28) * 28 + r % 28) * 28 + n / 192) * 192 + n % 192 = r * 5376 + n
    omega
  · refine transpose_apply _ _ _ _ _ fun b => ?_
    match b with
    | 0 => rfl
    | 1 => rfl
    | 2 => rfl
    | 3 => rfl
    | 4 => rfl

theorem rowAt_rowsOf {e : EltTy} (A : S2x192x8x28x28.Idx → Elt F e) {r n : ℕ} (hr : r < 448) (hn : n < 5376) :
    rowAt (F := F) (rowsOf A) r n
      = A (ix5 ⟨r / 224, by omega⟩ ⟨n % 192, by omega⟩ ⟨r % 224 / 28, by omega⟩ ⟨r % 28, by omega⟩ ⟨n / 192, by omega⟩) := by
  rw [← rowsOf_apply A hr hn]
  unfold rowAt
  congr 1
  funext a
  match a with
  | 0 => exact Fin.ext (Nat.mod_eq_of_lt hr)
  | 1 => exact Fin.ext (Nat.mod_eq_of_lt hn)

theorem wf_of_inWindow (I : S2x192x8x28x28.Idx → BitVec 32) (h : ∀ k, InWindow (I k) (k 2).val (k 3).val (k 4).val) {r : ℕ} (hr : r < 448) :
    Wf (baseOf r) (rowAt (F := F) (e := .i32) (rowsOf (F := F) (e := .i32) I) r) := by
  intro n hn
  rw [rowAt_rowsOf (F := F) (e := .i32) I hr hn]
  exact h _

end Cert.Proof.Unpool

end
-- ==== Proof.Refer.lean ====
/- The reference's result read at an element: the scatter of the inputs at their index words, over zeros. -/
module

public import proofs.«01_k».proof.Proof.Gen.ReferenceIdeal.Run
public import proofs.«01_k».proof.Proof.Window
public import Idealize.ShloMosaic.Lib.Routing.OpsSet
public import Idealize.ShloMosaic.Lib.Pipeline.Value

@[expose] public section

noncomputable section

namespace Cert.Proof.Unpool.Refer

open Cert.ReferenceIdeal Cert.ReferenceIdeal.Gen
open Idealize.ShloMosaic Idealize.ShloMosaic.Routing

variable {F : FTy → Type} [FloatOps F]

/-- The scatter's dimension record. -/
abbrev D3 := scatter_S2x192x50176_S2x192x6272x3_S2x192x6272_n_012_012_3

/-! ## Where an update lands -/

/-- An update at batch, channel and position reads its start index's component `a` at the same batch, channel and position. -/
theorem siIdx_eq (k : S2x192x6272.Idx) (a : Fin 3) :
    D3.siIdx k ⟨D3.scatterDimsToOperandDims.idxOf a, List.idxOf_lt_length_iff.2 (by match a with | 0 => decide | 1 => decide | 2 => decide)⟩
      = ix4 (k 0) (k 1) (k 2) a := by
  funext b
  match a, b with
  | 0, 0 => rfl
  | 0, 1 => rfl
  | 0, 2 => rfl
  | 0, 3 => rfl
  | 1, 0 => rfl
  | 1, 1 => rfl
  | 1, 2 => rfl
  | 1, 3 => rfl
  | 2, 0 => rfl
  | 2, 1 => rfl
  | 2, 2 => rfl
  | 2, 3 => rfl

/-- An update lands at the element its three words name. -/
theorem lands_iff (W : IVec S2x192x6272x3 32) (k : S2x192x6272.Idx) (ι : S2x192x50176.Idx) :
    D3.resultIdx? k W = some ι ↔ ∀ a : Fin 3, (W (ix4 (k 0) (k 1) (k 2) a)).toInt = ((ι a).val : Int) := by
  rw [resultIdx?_eq_some]
  refine forall_congr' fun a => ?_
  have hs : D3.start k W a = (W (ix4 (k 0) (k 1) (k 2) a)).toInt := by
    unfold ScatterDims.start
    rw [dif_pos (show a ∈ D3.scatterDimsToOperandDims by match a with | 0 => decide | 1 => decide | 2 => decide), siIdx_eq]
    rfl
  have hw : D3.window k a = 0 := by
    unfold ScatterDims.window
    exact dif_neg (by match a with | 0 => decide | 1 => decide | 2 => decide)
  rw [hs, hw, Nat.cast_zero, add_zero]

/-! ## The words -/

/-- The batch numbers, one for each update. -/
def batchWords : IVec S2x192x6272x1 32 :=
  broadcastInDim S2x192x6272x1 ![0, 1, 2] bcast_S2x192x6272_S2x192x6272x1_0_1_2 (broadcastInDim S2x192x6272 ![0, 1, 2] bcast_S2x1x1_S2x192x6272_0_1_2
    (select (cmpi .slt (broadcastInDim S2x1x1 ![0] bcast_S2_S2x1x1_0 (iotaInDim S2 32 0)) (broadcastInDim S2x1x1 ![] bcast_S_S2x1x1 (constantI S_ 32 0#32)))
      (addi (broadcastInDim S2x1x1 ![0] bcast_S2_S2x1x1_0 (iotaInDim S2 32 0)) (broadcastInDim S2x1x1 ![] bcast_S_S2x1x1 (constantI S_ 32 2#32)))
      (broadcastInDim S2x1x1 ![0] bcast_S2_S2x1x1_0 (iotaInDim S2 32 0))))

/-- The channel numbers, one for each update. -/
def chanWords : IVec S2x192x6272x1 32 :=
  broadcastInDim S2x192x6272x1 ![0, 1, 2] bcast_S2x192x6272_S2x192x6272x1_0_1_2 (broadcastInDim S2x192x6272 ![0, 1, 2] bcast_S1x192x1_S2x192x6272_0_1_2
    (select (cmpi .slt (broadcastInDim S1x192x1 ![1] bcast_S192_S1x192x1_1 (iotaInDim S192 32 0)) (broadcastInDim S1x192x1 ![] bcast_S_S1x192x1 (constantI S_ 32 0#32)))
      (addi (broadcastInDim S1x192x1 ![1] bcast_S192_S1x192x1_1 (iotaInDim S192 32 0)) (broadcastInDim S1x192x1 ![] bcast_S_S1x192x1 (constantI S_ 32 192#32)))
      (broadcastInDim S1x192x1 ![1] bcast_S192_S1x192x1_1 (iotaInDim S192 32 0))))

/-- The index words, wrapped when negative. -/
def placeWords (J : IVec S2x192x6272 32) : IVec S2x192x6272x1 32 :=
  broadcastInDim S2x192x6272x1 ![0, 1, 2] bcast_S2x192x6272_S2x192x6272x1_0_1_2
    (select (cmpi .slt J (broadcastInDim S2x192x6272 ![] bcast_S_S2x192x6272 (constantI S_ 32 0#32)))
      (addi J (broadcastInDim S2x192x6272 ![] bcast_S_S2x192x6272 (constantI S_ 32 50176#32))) J)

/-- The three columns of the updates' words. -/
abbrev columns (J : IVec S2x192x6272 32) : List ((s : Shape) × (s.Idx → BitVec 32)) :=
  [⟨S2x192x6272x1, batchWords⟩, ⟨S2x192x6272x1, chanWords⟩, ⟨S2x192x6272x1, placeWords J⟩]

/-- The three words of each update side by side. -/
def words (J : IVec S2x192x6272 32) : IVec S2x192x6272x3 32 :=
  concatenate S2x192x6272x3 3 (columns J)
    concatenates_S2x192x6272x1_S2x192x6272x1_S2x192x6272x1_S2x192x6272x3_d3

theorem batchWords_apply (n : Fin 2) (c : Fin 192) (p : Fin 6272) : batchWords (ix4 n c p (0 : Fin 1)) = BitVec.ofNat 32 n.val := by
  unfold batchWords
  rw [broadcastInDim_apply (k := ix3 n c p) (hk := fun a => by match a with | 0 => rfl | 1 => rfl | 2 => rfl),
    broadcastInDim_apply (k := ix3 n (0 : Fin 1) (0 : Fin 1)) (hk := fun a => by match a with | 0 => rfl | 1 => rfl | 2 => rfl)]
  exact wrap_of_lt (BitVec.ofNat 32 n.val) _ (by have := n.isLt; simp only [BitVec.toNat_ofNat]; omega)

theorem chanWords_apply (n : Fin 2) (c : Fin 192) (p : Fin 6272) : chanWords (ix4 n c p (0 : Fin 1)) = BitVec.ofNat 32 c.val := by
  unfold chanWords
  rw [broadcastInDim_apply (k := ix3 n c p) (hk := fun a => by match a with | 0 => rfl | 1 => rfl | 2 => rfl),
    broadcastInDim_apply (k := ix3 (0 : Fin 1) c (0 : Fin 1)) (hk := fun a => by match a with | 0 => rfl | 1 => rfl | 2 => rfl)]
  exact wrap_of_lt (BitVec.ofNat 32 c.val) _ (by have := c.isLt; simp only [BitVec.toNat_ofNat]; omega)

theorem placeWords_apply (J : IVec S2x192x6272 32) (n : Fin 2) (c : Fin 192) (p : Fin 6272) (h : (J (ix3 n c p)).toNat < 50176) :
    placeWords J (ix4 n c p (0 : Fin 1)) = J (ix3 n c p) := by
  unfold placeWords
  rw [broadcastInDim_apply (k := ix3 n c p) (hk := fun a => by match a with | 0 => rfl | 1 => rfl | 2 => rfl)]
  exact wrap_of_lt (J (ix3 n c p)) _ (by omega)

theorem words_batch (J : IVec S2x192x6272 32) (n : Fin 2) (c : Fin 192) (p : Fin 6272) : words J (ix4 n c p (0 : Fin 3)) = BitVec.ofNat 32 n.val :=
  (concatenate_apply_piece (t := S2x192x6272x3) (3 : Fin 4) (columns J) concatenates_S2x192x6272x1_S2x192x6272x1_S2x192x6272x1_S2x192x6272x3_d3
    (ix4 n c p (0 : Fin 3)) 0 (show 0 < 3 by decide) S2x192x6272x1 batchWords rfl rfl 0 rfl (ix4 n c p (0 : Fin 1))
    (fun b hb => by match b with | 0 => rfl | 1 => rfl | 2 => rfl | 3 => exact absurd rfl hb) rfl).trans (batchWords_apply n c p)

theorem words_chan (J : IVec S2x192x6272 32) (n : Fin 2) (c : Fin 192) (p : Fin 6272) : words J (ix4 n c p (1 : Fin 3)) = BitVec.ofNat 32 c.val :=
  (concatenate_apply_piece (t := S2x192x6272x3) (3 : Fin 4) (columns J) concatenates_S2x192x6272x1_S2x192x6272x1_S2x192x6272x1_S2x192x6272x3_d3
    (ix4 n c p (1 : Fin 3)) 1 (show 1 < 3 by decide) S2x192x6272x1 chanWords rfl rfl 1 rfl (ix4 n c p (0 : Fin 1))
    (fun b hb => by match b with | 0 => rfl | 1 => rfl | 2 => rfl | 3 => exact absurd rfl hb) rfl).trans (chanWords_apply n c p)

theorem words_place (J : IVec S2x192x6272 32) (n : Fin 2) (c : Fin 192) (p : Fin 6272) (h : (J (ix3 n c p)).toNat < 50176) :
    words J (ix4 n c p (2 : Fin 3)) = J (ix3 n c p) :=
  (concatenate_apply_piece (t := S2x192x6272x3) (3 : Fin 4) (columns J) concatenates_S2x192x6272x1_S2x192x6272x1_S2x192x6272x1_S2x192x6272x3_d3
    (ix4 n c p (2 : Fin 3)) 2 (show 2 < 3 by decide) S2x192x6272x1 (placeWords J) rfl rfl 2 rfl (ix4 n c p (0 : Fin 1))
    (fun b hb => by match b with | 0 => rfl | 1 => rfl | 2 => rfl | 3 => exact absurd rfl hb) rfl).trans (placeWords_apply J n c p h)

theorem toInt_ofNat_small {x : ℕ} (h : x < 1000000) : (BitVec.ofNat 32 x).toInt = (x : Int) := by
  rw [BitVec.toInt_eq_toNat_of_lt (by simp only [BitVec.toNat_ofNat]; omega), BitVec.toNat_ofNat, Nat.mod_eq_of_lt (by omega)]

/-- With every index word inside the array, an update lands at its own batch and channel and at the position its index word names. -/
theorem lands_words (J : IVec S2x192x6272 32) (hJ : ∀ k, (J k).toNat < 50176) (k : S2x192x6272.Idx) (ι : S2x192x50176.Idx) :
    D3.resultIdx? k (words J) = some ι ↔ (k 0).val = (ι 0).val ∧ (k 1).val = (ι 1).val ∧ (J k).toNat = (ι 2).val := by
  have e : ix3 (k 0) (k 1) (k 2) = k := by funext a; match a with | 0 => rfl | 1 => rfl | 2 => rfl
  have h2 := (words_place J (k 0) (k 1) (k 2) (hJ _)).trans (congrArg J e)
  have i0 := toInt_ofNat_small (x := (k 0).val) (lt_trans (show (k 0).val < 2 from (k 0).isLt) (by omega))
  have i1 := toInt_ofNat_small (x := (k 1).val) (lt_trans (show (k 1).val < 192 from (k 1).isLt) (by omega))
  have i2 : (J k).toInt = ((J k).toNat : Int) := BitVec.toInt_eq_toNat_of_lt (by have := hJ k; omega)
  have q0 : (words J (ix4 (k 0) (k 1) (k 2) (0 : Fin 3))).toInt = ((k 0).val : Int) := (congrArg BitVec.toInt (words_batch J (k 0) (k 1) (k 2))).trans i0
  have q1 : (words J (ix4 (k 0) (k 1) (k 2) (1 : Fin 3))).toInt = ((k 1).val : Int) := (congrArg BitVec.toInt (words_chan J (k 0) (k 1) (k 2))).trans i1
  have q2 : (words J (ix4 (k 0) (k 1) (k 2) (2 : Fin 3))).toInt = ((J k).toNat : Int) := (congrArg BitVec.toInt h2).trans i2
  rw [lands_iff]
  constructor
  · intro h
    exact ⟨Int.ofNat_inj.1 (q0.symm.trans (h 0)), Int.ofNat_inj.1 (q1.symm.trans (h 1)), Int.ofNat_inj.1 (q2.symm.trans (h 2))⟩
  · rintro ⟨a0, a1, a2⟩ a
    match a with
    | 0 => exact q0.trans (Int.ofNat_inj.2 a0)
    | 1 => exact q1.trans (Int.ofNat_inj.2 a1)
    | 2 => exact q2.trans (Int.ofNat_inj.2 a2)

/-! ## The result -/

/-- The reference's result as a function of its arguments. -/
def refOut (A : S2x192x8x28x28.Idx → F .f32) (I : IVec S2x192x8x28x28 32) : S2x192x16x56x56.Idx → F .f32 :=
  shapeCast _ (Host.scatter D3 (fun _ b => b) (broadcastInDim S2x192x50176 ![] bcast_S_S2x192x50176 (constant S_ .f32 0x00000000#32))
    (words (shapeCast _ I shapeCasts_S2x192x8x28x28_S2x192x6272)) (shapeCast _ A shapeCasts_S2x192x8x28x28_S2x192x6272))
    shapeCasts_S2x192x50176_S2x192x16x56x56

/-- The input element in whose window an output element lies. -/
def home (y : S2x192x16x56x56.Idx) : S2x192x8x28x28.Idx :=
  ix5 (y 0) (y 1) ⟨(y 2).val / 2, by have := (y 2).isLt; change _ < 16 at this; omega⟩
    ⟨(y 3).val / 2, by have := (y 3).isLt; change _ < 56 at this; omega⟩ ⟨(y 4).val / 2, by have := (y 4).isLt; change _ < 56 at this; omega⟩

/-- An output element's position in its channel. -/
def place (y : S2x192x16x56x56.Idx) : ℕ := ((y 2).val * 56 + (y 3).val) * 56 + (y 4).val

/-- The unpooled array: an output element holds its window's input where that input's index word names it, and zero elsewhere. -/
def unpooled (A : S2x192x8x28x28.Idx → F .f32) (I : IVec S2x192x8x28x28 32) : S2x192x16x56x56.Idx → F .f32 := fun y =>
  if (I (home y)).toNat = place y then A (home y) else Scalar.ofBits .f32 0x00000000#32

/-- The element of an argument at batch, channel and row-major position. -/
def unflat (k : S2x192x6272.Idx) : S2x192x8x28x28.Idx :=
  ix5 (k 0) (k 1) ⟨(k 2).val / 784, by have := (k 2).isLt; change _ < 6272 at this; omega⟩
    ⟨(k 2).val / 28 % 28, by omega⟩ ⟨(k 2).val % 28, by omega⟩

theorem flat_apply {α : Type} (A : S2x192x8x28x28.Idx → α) (k : S2x192x6272.Idx) :
    shapeCast S2x192x6272 A shapeCasts_S2x192x8x28x28_S2x192x6272 k = A (unflat k) := by
  refine shapeCast_apply _ _ _ _ ?_
  rw [Shape.rowMajor_val_five, Shape.rowMajor_val_three]
  show ((((k 0).val * 192 + (k 1).val) * 8 + (k 2).val / 784) * 28 + (k 2).val / 28 % 28) * 28 + (k 2).val % 28
    = ((k 0).val * 192 + (k 1).val) * 6272 + (k 2).val
  omega

/-- An output element's update, in row-major form. -/
def flatHome (y : S2x192x16x56x56.Idx) : S2x192x6272.Idx :=
  ix3 (y 0) (y 1) ⟨((y 2).val / 2 * 28 + (y 3).val / 2) * 28 + (y 4).val / 2, by
    have y2 : (y 2).val < 16 := (y 2).isLt
    have y3 : (y 3).val < 56 := (y 3).isLt
    have y4 : (y 4).val < 56 := (y 4).isLt
    omega⟩

theorem unflat_flatHome (y : S2x192x16x56x56.Idx) : unflat (flatHome y) = home y := by
  have y2 : (y 2).val < 16 := (y 2).isLt
  have y3 : (y 3).val < 56 := (y 3).isLt
  have y4 : (y 4).val < 56 := (y 4).isLt
  funext q
  match q with
  | 0 => rfl
  | 1 => rfl
  | 2 => exact Fin.ext (show (((y 2).val / 2 * 28 + (y 3).val / 2) * 28 + (y 4).val / 2) / 784 = (y 2).val / 2 by omega)
  | 3 => exact Fin.ext (show (((y 2).val / 2 * 28 + (y 3).val / 2) * 28 + (y 4).val / 2) / 28 % 28 = (y 3).val / 2 by omega)
  | 4 => exact Fin.ext (show (((y 2).val / 2 * 28 + (y 3).val / 2) * 28 + (y 4).val / 2) % 28 = (y 4).val / 2 by omega)

theorem place_lt (y : S2x192x16x56x56.Idx) : place y < 50176 := by
  have y2 : (y 2).val < 16 := (y 2).isLt
  have y3 : (y 3).val < 56 := (y 3).isLt
  have y4 : (y 4).val < 56 := (y 4).isLt
  unfold place; omega

/-- An output element, in row-major form. -/
def flatOut (y : S2x192x16x56x56.Idx) : S2x192x50176.Idx := ix3 (y 0) (y 1) ⟨place y, place_lt y⟩

/-- Index words in their own windows lie inside the array. -/
theorem inside (I : IVec S2x192x8x28x28 32) (hI : ∀ k, InWindow (I k) (k 2).val (k 3).val (k 4).val) (k : S2x192x6272.Idx) :
    (shapeCast S2x192x6272 I shapeCasts_S2x192x8x28x28_S2x192x6272 k).toNat < 50176 := by
  rw [flat_apply]
  obtain ⟨a, b, c, ha, hb, hc, e⟩ := hI (unflat k)
  have h2 : (unflat k 2).val < 8 := (unflat k 2).isLt
  have h3 : (unflat k 3).val < 28 := (unflat k 3).isLt
  have h4 : (unflat k 4).val < 28 := (unflat k 4).isLt
  omega

/-- The only update that can land at an output element is its window's. -/
theorem lands_home (I : IVec S2x192x8x28x28 32) (hI : ∀ k, InWindow (I k) (k 2).val (k 3).val (k 4).val) (y : S2x192x16x56x56.Idx)
    (k : S2x192x6272.Idx) (hk : D3.resultIdx? k (words (shapeCast _ I shapeCasts_S2x192x8x28x28_S2x192x6272)) = some (flatOut y)) :
    unflat k = home y ∧ (I (home y)).toNat = place y := by
  obtain ⟨e0, e1, e2⟩ := (lands_words _ (inside I hI) k _).1 hk
  rw [flat_apply] at e2
  change (k 0).val = (y 0).val at e0
  change (k 1).val = (y 1).val at e1
  change (I (unflat k)).toNat = place y at e2
  have y3 : (y 3).val < 56 := (y 3).isLt
  have y4 : (y 4).val < 56 := (y 4).isLt
  have hu : unflat k = home y := by
    obtain ⟨a, b, c, ha, hb, hc, e⟩ := hI (unflat k)
    have h3 : (unflat k 3).val < 28 := (unflat k 3).isLt
    have h4 : (unflat k 4).val < 28 := (unflat k 4).isLt
    rw [e2] at e
    unfold place at e
    have f2 : (unflat k 2).val = (y 2).val / 2 := by omega
    have f3 : (unflat k 3).val = (y 3).val / 2 := by omega
    have f4 : (unflat k 4).val = (y 4).val / 2 := by omega
    funext q
    match q with
    | 0 => exact Fin.ext e0
    | 1 => exact Fin.ext e1
    | 2 => exact Fin.ext f2
    | 3 => exact Fin.ext f3
    | 4 => exact Fin.ext f4
  exact ⟨hu, hu ▸ e2⟩

theorem home_lands (I : IVec S2x192x8x28x28 32) (hI : ∀ k, InWindow (I k) (k 2).val (k 3).val (k 4).val) (y : S2x192x16x56x56.Idx)
    (h : (I (home y)).toNat = place y) :
    D3.resultIdx? (flatHome y) (words (shapeCast _ I shapeCasts_S2x192x8x28x28_S2x192x6272)) = some (flatOut y) := by
  rw [lands_words _ (inside I hI), flat_apply, unflat_flatHome, h]
  exact ⟨rfl, rfl, rfl⟩

/-- Under the precondition the reference's result is the unpooled array. -/
theorem refOut_eq (A : S2x192x8x28x28.Idx → F .f32) (I : IVec S2x192x8x28x28 32)
    (hI : ∀ k, InWindow (I k) (k 2).val (k 3).val (k 4).val) : refOut A I = unpooled A I := by
  funext y
  unfold refOut
  refine (shapeCast_apply _ _ y (flatOut y) (by
    rw [Shape.rowMajor_val_five, Shape.rowMajor_val_three]
    show ((y 0).val * 192 + (y 1).val) * 50176 + place y = ((((y 0).val * 192 + (y 1).val) * 16 + (y 2).val) * 56 + (y 3).val) * 56 + (y 4).val
    unfold place; omega)).trans ?_
  unfold unpooled
  by_cases h : (I (home y)).toNat = place y
  · rw [if_pos h]
    have hk := home_lands I hI y h
    exact scatter_set_hit D3 _ _ _ (flatOut y) (A (home y)) (fun k hk => by rw [flat_apply, (lands_home I hI y k hk).1]) (flatHome y) hk
  · rw [if_neg h, scatter_set_miss D3 _ _ _ (flatOut y) fun k hk => h (lands_home I hI y k hk).2]
    rfl

end Cert.Proof.Unpool.Refer

end
-- ==== Proof.Result.lean ====
/- The kernel's result is the unpooled array. -/
module

public import proofs.«01_k».proof.Proof.Refer

@[expose] public section

noncomputable section

namespace Cert.Proof.Unpool

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers
open Idealize.ShloMosaic.StableHlo (held held_split held_sdiff_result wp_hlo_within)
open Idealize.ShloMosaic.Tactic

variable {F : FTy → Type}

local notation "𝕄" => MT nD τ sig (HIx 1) (Elt F) ℕ UU ℕ

open Refer (home place unpooled)

/-- The kernel's result, its channels brought second, is the unpooled array. -/
theorem result_eq [FloatOps F] (A : S2x192x8x28x28.Idx → F .f32) (I : S2x192x8x28x28.Idx → BitVec 32)
    (hI : ∀ k, InWindow (I k) (k 2).val (k 3).val (k 4).val) :
    chanSecond (gOut (rowsOf (F := F) (e := .f32) A) (rowsOf (F := F) (e := .i32) I)) = unpooled A I := by
  funext y
  have y0 : (y 0).val < 2 := (y 0).isLt
  have y1 : (y 1).val < 192 := (y 1).isLt
  have y2 : (y 2).val < 16 := (y 2).isLt
  have y3 : (y 3).val < 56 := (y 3).isLt
  have y4 : (y 4).val < 56 := (y 4).isLt
  have hr : (y 0).val * 224 + (y 2).val / 2 * 28 + (y 3).val / 2 < 448 := by omega
  have hs : src (((y 2).val % 2 * 2 + (y 3).val % 2) * 56 + (y 4).val) (y 1).val = (y 4).val / 2 * 192 + (y 1).val := by unfold src; omega
  have hlt : (y 4).val / 2 * 192 + (y 1).val < 5376 := by omega
  have hat : ∀ {e : EltTy} (B : S2x192x8x28x28.Idx → Elt F e),
      rowAt (F := F) (rowsOf B) ((y 0).val * 224 + (y 2).val / 2 * 28 + (y 3).val / 2) ((y 4).val / 2 * 192 + (y 1).val) = B (home y) := fun B => by
    rw [rowAt_rowsOf B hr hlt]
    congr 1
    funext q
    match q with
    | 0 => exact Fin.ext (show ((y 0).val * 224 + (y 2).val / 2 * 28 + (y 3).val / 2) / 224 = (y 0).val by omega)
    | 1 => exact Fin.ext (show ((y 4).val / 2 * 192 + (y 1).val) % 192 = (y 1).val by omega)
    | 2 => exact Fin.ext (show ((y 0).val * 224 + (y 2).val / 2 * 28 + (y 3).val / 2) % 224 / 28 = (y 2).val / 2 by omega)
    | 3 => exact Fin.ext (show ((y 0).val * 224 + (y 2).val / 2 * 28 + (y 3).val / 2) % 28 = (y 3).val / 2 by omega)
    | 4 => exact Fin.ext (show ((y 4).val / 2 * 192 + (y 1).val) / 192 = (y 4).val / 2 by omega)
  unfold chanSecond
  refine (transpose_apply _ _ _ y (ix5 (y 0) (y 2) (y 3) (y 4) (y 1) : S2x16x56x56x192.Idx)
    (fun b => by match b with | 0 => rfl | 1 => rfl | 2 => rfl | 3 => rfl | 4 => rfl)).trans ?_
  show (if src (((y 2).val % 2 * 2 + (y 3).val % 2) * 56 + (y 4).val) (y 1).val < 5376
      ∧ rowOf (baseOf ((y 0).val * 224 + (y 2).val / 2 * 28 + (y 3).val / 2)) (src (((y 2).val % 2 * 2 + (y 3).val % 2) * 56 + (y 4).val) (y 1).val)
        (rowAt (F := F) (e := .i32) (rowsOf (F := F) (e := .i32) I) ((y 0).val * 224 + (y 2).val / 2 * 28 + (y 3).val / 2)
          (src (((y 2).val % 2 * 2 + (y 3).val % 2) * 56 + (y 4).val) (y 1).val)).toNat = ((y 2).val % 2 * 2 + (y 3).val % 2) * 56 + (y 4).val
      then rowAt (F := F) (e := .f32) (rowsOf (F := F) (e := .f32) A) ((y 0).val * 224 + (y 2).val / 2 * 28 + (y 3).val / 2)
        (src (((y 2).val % 2 * 2 + (y 3).val % 2) * 56 + (y 4).val) (y 1).val) else zero) = unpooled A I y
  rw [hs, hat (e := .i32), hat (e := .f32)]
  unfold unpooled
  obtain ⟨a, b, c, ha, hb, hc, e⟩ := hI (home y)
  change (I (home y)).toNat = (112 * ((y 2).val / 2) + 2 * ((y 3).val / 2)) * 56 + 2 * ((y 4).val / 2) + (3136 * a + 56 * b + c) at e
  have hw : ((y 4).val / 2 * 192 + (y 1).val) / 192 = (y 4).val / 2 := by omega
  have hB : baseOf ((y 0).val * 224 + (y 2).val / 2 * 28 + (y 3).val / 2) = (112 * ((y 2).val / 2) + 2 * ((y 3).val / 2)) * 56 := by unfold baseOf; omega
  rw [hB, rowOf_eq ha hb hc (by rw [hw]; exact e), hw]
  refine if_congr ?_ rfl rfl
  rw [e]
  unfold place
  constructor
  · rintro ⟨_, h⟩; omega
  · intro h; exact ⟨hlt, by omega⟩

end Cert.Proof.Unpool

end
-- ==== Proof.lean ====
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.ReferenceIdeal.Run
public import proofs.«01_k».proof.Proof.Gen.Pre_in_own_window
public import proofs.«01_k».proof.Proof.Result
public import Idealize.ShloMosaic.Lib.Quiescent
public import Idealize.ShloMosaic.Adequacy
public import Idealize.ShloMosaic.Init

@[expose] public section

noncomputable section

namespace Cert.Proof

open Idealize.ShloMosaic Idealize.SL.Sem Cert.Kernel

open Unpool

/-- The kernel's run under the precondition, at any reading of the floats. -/
theorem run_of_pre {F : FTy → Type} [FloatOps F] [∀ e, Nonempty (Elt F e)]
    (m : (ℓ : Loc Cert.KernelIdeal.nD Cert.KernelIdeal.τ Cert.KernelIdeal.sig) → Buf (Elt F) ℓ) (ρ : Dev Cert.KernelIdeal.nD → PrngReg)
    (h : ∀ d, Cert.Pre_in_own_window.fn (F := F) (m (aLoc d)) (m (bLoc d)) = fun _ => 1#1) :
    θ_run (Cert.KernelIdeal.defs (F := F)) (Cert.KernelIdeal.threads (F := F)) ⟨m, fun _ => 0, ρ⟩ (QC m) :=
  run_main m ρ fun d _ hr => wf_of_inWindow (F := F) _ (inWindow_of_pre _ _ (h d)) hr

/-- `Cert.quiescent_KernelIdeal` (Defs.lean): the program's run read at the arguments and the semaphores. -/
theorem frame_kernelIdeal : Cert.quiescent_KernelIdeal := fun m ρ h =>
  (θ_run Cert.KernelIdeal.defs _ _).mono (fun _ q => ⟨fun c => ⟨(q.1 c).1, (q.1 c).2.1⟩, q.2⟩) (run_of_pre (F := Ideal) m ρ h)

/-- `Cert.quiescent_Kernel` (Defs.lean): the same program at words. -/
theorem frame_kernel : Cert.quiescent_Kernel := fun m ρ h =>
  (θ_run Cert.KernelIdeal.defs _ _).mono (fun _ q => ⟨fun c => ⟨(q.1 c).1, (q.1 c).2.1⟩, q.2⟩) (run_of_pre (F := Bits) m ρ h)

/-- `Cert.quiescent_ReferenceIdeal` (Defs.lean): the generated run read at the arguments; the program declares no semaphore. -/
theorem frame_referenceIdeal : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem frame_referenceIdeal_pre : Cert.quiescent_ReferenceIdeal_pre_in_own_window := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- `Cert.algebraic_KernelIdeal_ReferenceIdeal` (Defs.lean): both results are the unpooled array of the arguments. -/
theorem equal : Cert.algebraic_KernelIdeal_ReferenceIdeal := fun m ρ m' ρ' h hm =>
  ⟨fun d => result (F := Ideal) m d,
    (θ_run Cert.KernelIdeal.defs _ _).mono (fun _ q c => ⟨(q.1 c).2.2, (q.1 c).1, (q.1 c).2.1⟩) (run_of_pre (F := Ideal) m ρ h),
    (θ_run Cert.ReferenceIdeal.defs _ _).mono (fun _ q c => ⟨(q c).1.trans (by
        have hI := inWindow_of_pre (F := Ideal) _ _ (h c)
        refine Eq.trans ?_ (result_eq (F := Ideal) (m (aLoc c)) (m (bLoc c)) hI).symm
        refine Eq.trans ?_ (Refer.refOut_eq (F := Ideal) (m (aLoc c)) (m (bLoc c)) hI)
        have e : Refer.refOut (F := Ideal) (m' ((c.tc : Thread Cert.ReferenceIdeal.nD Cert.ReferenceIdeal.τ).loc Cert.ReferenceIdeal.main_arg0))
            (m' ((c.tc : Thread Cert.ReferenceIdeal.nD Cert.ReferenceIdeal.τ).loc Cert.ReferenceIdeal.main_arg1))
            = Refer.refOut (F := Ideal) (m (aLoc c)) (m (bLoc c)) := congrArg₂ Refer.refOut (hm c).1 (hm c).2
        exact e), (q c).2⟩) (Cert.ReferenceIdeal.Value.run (F := Ideal) m' ρ')⟩

theorem claim : Cert.Claim := ⟨Cert.Kernel.Gen.facts, Cert.KernelIdeal.Gen.facts, Cert.ReferenceIdeal.Gen.facts, Cert.Pre_in_own_window.Gen.facts,
  frame_kernel, frame_kernelIdeal, frame_referenceIdeal, frame_referenceIdeal_pre, trivial, equal⟩

end Cert.Proof

end
